-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_splits_in_own_block [hPre_splits_in_own_block : Cert.Pre_splits_in_own_block.Facts] (m : (ℓ : Loc Cert.KernelIdeal.nD Cert.KernelIdeal.τ Cert.KernelIdeal.sig) → Buf (Elt Ideal) ℓ) : Prop :=
  ∀ c : Dev Cert.KernelIdeal.nD,
    (Cert.Pre_splits_in_own_block.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_splits_in_own_block [hPre_splits_in_own_block : Cert.Pre_splits_in_own_block.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_splits_in_own_block.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_splits_in_own_block [hKernelIdeal : Cert.KernelIdeal.Facts] [hPre_splits_in_own_block : Cert.Pre_splits_in_own_block.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_splits_in_own_block m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_splits_in_own_block [hReferenceIdeal : Cert.ReferenceIdeal.Facts] [hPre_splits_in_own_block : Cert.Pre_splits_in_own_block.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_splits_in_own_block m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.Statement Cert.KernelIdeal.S16x128 Cert.KernelIdeal.S8x128
  ∧ IdealRules.bf16_pair.PackStatement Cert.KernelIdeal.S8x128

def algebraic_KernelIdeal_ReferenceIdeal_pre_splits_in_own_block [hKernelIdeal : Cert.KernelIdeal.Facts] [hReferenceIdeal : Cert.ReferenceIdeal.Facts] [hPre_splits_in_own_block : Cert.Pre_splits_in_own_block.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_splits_in_own_block m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_splits_in_own_block : Cert.Pre_splits_in_own_block.Facts),
    quiescent_Kernel (hKernel := hKernel)
    ∧ quiescent_KernelIdeal (hKernelIdeal := hKernelIdeal)
    ∧ quiescent_KernelIdeal_pre_splits_in_own_block (hKernelIdeal := hKernelIdeal) (hPre_splits_in_own_block := hPre_splits_in_own_block)
    ∧ quiescent_ReferenceIdeal (hReferenceIdeal := hReferenceIdeal)
    ∧ quiescent_ReferenceIdeal_pre_splits_in_own_block (hReferenceIdeal := hReferenceIdeal) (hPre_splits_in_own_block := hPre_splits_in_own_block)
    ∧ preserves_Kernel_KernelIdeal
    ∧ algebraic_KernelIdeal_ReferenceIdeal_pre_splits_in_own_block (hKernelIdeal := hKernelIdeal) (hReferenceIdeal := hReferenceIdeal) (hPre_splits_in_own_block := hPre_splits_in_own_block)
-- ==== Pre_splits_in_own_block.lean ====
abbrev S5x2048x7168 : Shape := ⟨3, ![5, 2048, 7168]⟩
abbrev S56x4 : Shape := ⟨2, ![56, 4]⟩
abbrev S56x15 : Shape := ⟨2, ![56, 15]⟩
abbrev S56x16x18432 : Shape := ⟨3, ![56, 16, 18432]⟩
abbrev S18432 : Shape := ⟨1, ![18432]⟩
abbrev S56 : Shape := ⟨1, ![56]⟩
abbrev S56x1 : Shape := ⟨2, ![56, 1]⟩
abbrev S_ : Shape := ⟨0, ![]⟩

class Facts : Prop where
  bcast_S56_S56x1_0 : S56.BroadcastsInDim S56x1 (![0] : Fin 1 → Fin S56x1.rank)
  bcast_S_S56x1 : S_.BroadcastsInDim S56x1 (![] : Fin 0 → Fin S56x1.rank)
  bcast_S56x1_S56x4_0_1 : S56x1.BroadcastsInDim S56x4 (![0, 1] : Fin 2 → Fin S56x4.rank)
  reducesTo_S56x4_S_d0_1 : S56x4.ReducesTo [0, 1] S_
  h_S_ : 0 < S_.numel

variable [Facts]

def fn {F : FTy → Type} [FloatOps F] (main_arg0 : FVec F S5x2048x7168 .bf16) (main_arg1 : IVec S56x4 32) (main_arg2 : FVec F S56x15 .bf16) (main_arg3 : IVec S56x16x18432 8) (main_arg4 : FVec F S18432 .f32) : IVec S_ 1 :=
  let main_v0 : IVec S56 32 := iotaInDim S56 32 0
  let main_v1 : IVec S56x1 32 := broadcastInDim S56x1 ![0] bcast_S56_S56x1_0 main_v0
  let main_c : IVec S_ 32 := constantI S_ 32 128#32
  let main_v2 : IVec S56x1 32 := broadcastInDim S56x1 ![] bcast_S_S56x1 main_c
  let main_v3 : IVec S56x1 32 := muli main_v1 main_v2
  let main_v4 : IVec S56x4 32 := broadcastInDim S56x4 ![0, 1] bcast_S56x1_S56x4_0_1 main_v3
  let main_v5 : IVec S56x4 1 := cmpi .sge main_arg1 main_v4
  let main_c_0 : IVec S_ 32 := constantI S_ 32 128#32
  let main_v6 : IVec S56x1 32 := broadcastInDim S56x1 ![] bcast_S_S56x1 main_c_0
  let main_v7 : IVec S56x1 32 := addi main_v3 main_v6
  let main_v8 : IVec S56x4 32 := broadcastInDim S56x4 ![0, 1] bcast_S56x1_S56x4_0_1 main_v7
  let main_v9 : IVec S56x4 1 := cmpi .slt main_arg1 main_v8
  let main_v10 : IVec S56x4 1 := andi main_v5 main_v9
  let main_c_1 : IVec S_ 1 := constantI S_ 1 1#1
  let main_v11 : IVec S_ 1 := (fun x v => Host.reduce IntOp.andi x v reducesTo_S56x4_S_d0_1 h_S_) main_v10 main_c_1
  main_v11
-- ==== Kernel.lean ====
abbrev S5x2048x7168 : Shape := ⟨3, ![5, 2048, 7168]⟩
abbrev S56x4 : Shape := ⟨2, ![56, 4]⟩
abbrev S56x15 : Shape := ⟨2, ![56, 15]⟩
abbrev S56x16x18432 : Shape := ⟨3, ![56, 16, 18432]⟩
abbrev S18432 : Shape := ⟨1, ![18432]⟩
abbrev S4x56 : Shape := ⟨2, ![4, 56]⟩
abbrev S15x56 : Shape := ⟨2, ![15, 56]⟩
abbrev S10240x7168 : Shape := ⟨2, ![10240, 7168]⟩
abbrev S896x18432 : Shape := ⟨2, ![896, 18432]⟩
abbrev S1x18432 : Shape := ⟨2, ![1, 18432]⟩
abbrev S10240x18432 : Shape := ⟨2, ![10240, 18432]⟩
abbrev S5x56x2048 : Shape := ⟨3, ![5, 56, 2048]⟩
abbrev S256x7168 : Shape := ⟨2, ![256, 7168]⟩
abbrev S256x18432 : Shape := ⟨2, ![256, 18432]⟩
abbrev S1x56x256 : Shape := ⟨3, ![1, 56, 256]⟩
abbrev S56x8x128 : Shape := ⟨3, ![56, 8, 128]⟩
abbrev S16x128 : Shape := ⟨2, ![16, 128]⟩
abbrev S256x1024 : Shape := ⟨2, ![256, 1024]⟩
abbrev S128x128 : Shape := ⟨2, ![128, 128]⟩
abbrev S8x128 : Shape := ⟨2, ![8, 128]⟩
abbrev S1x1 : Shape := ⟨2, ![1, 1]⟩
abbrev S1x8x128 : Shape := ⟨3, ![1, 8, 128]⟩
abbrev S8x128x1 : Shape := ⟨3, ![8, 128, 1]⟩
abbrev S1x128 : Shape := ⟨2, ![1, 128]⟩
abbrev S56x128 : Shape := ⟨2, ![56, 128]⟩
abbrev S56x128x1 : Shape := ⟨3, ![56, 128, 1]⟩
abbrev S1x56x128 : Shape := ⟨3, ![1, 56, 128]⟩
abbrev S896x512 : Shape := ⟨2, ![896, 512]⟩
abbrev S896x256 : Shape := ⟨2, ![896, 256]⟩
abbrev S128x256 : Shape := ⟨2, ![128, 256]⟩
abbrev S1024x256 : Shape := ⟨2, ![1024, 256]⟩
abbrev S256x256 : Shape := ⟨2, ![256, 256]⟩
abbrev S256x768 : Shape := ⟨2, ![256, 768]⟩
abbrev S768x256 : Shape := ⟨2, ![768, 256]⟩
abbrev S1x512 : Shape := ⟨2, ![1, 512]⟩
abbrev S1x256 : Shape := ⟨2, ![1, 256]⟩
abbrev S5x2048x18432 : Shape := ⟨3, ![5, 2048, 18432]⟩
abbrev S5x2048x56 : Shape := ⟨3, ![5, 2048, 56]⟩

abbrev nBuf : Space → Nat
  | .hbm => 14
  | .vmem => 13
  | .smem => 1
  | _ => 0

abbrev bufTy : (tb : Table) → Fin (tcTables nBuf tb) → BufTy
  | .hbm, ⟨0, _⟩ => ⟨S5x2048x7168, .bf16⟩
  | .hbm, ⟨1, _⟩ => ⟨S56x4, .i32⟩
  | .hbm, ⟨2, _⟩ => ⟨S56x15, .bf16⟩
  | .hbm, ⟨3, _⟩ => ⟨S56x16x18432, .i8⟩
  | .hbm, ⟨4, _⟩ => ⟨S18432, .f32⟩
  | .hbm, ⟨5, _⟩ => ⟨S4x56, .i32⟩
  | .hbm, ⟨6, _⟩ => ⟨S15x56, .bf16⟩
  | .hbm, ⟨7, _⟩ => ⟨S10240x7168, .bf16⟩
  | .hbm, ⟨8, _⟩ => ⟨S896x18432, .i8⟩
  | .hbm, ⟨9, _⟩ => ⟨S1x18432, .f32⟩
  | .hbm, ⟨10, _⟩ => ⟨S10240x18432, .bf16⟩
  | .hbm, ⟨11, _⟩ => ⟨S5x56x2048, .i8⟩
  | .hbm, ⟨12, _⟩ => ⟨S5x2048x18432, .bf16⟩
  | .hbm, ⟨13, _⟩ => ⟨S5x2048x56, .i8⟩
  | .local _ .vmem, ⟨0, _⟩ => ⟨S15x56, .bf16⟩
  | .local _ .vmem, ⟨1, _⟩ => ⟨S256x7168, .bf16⟩
  | .local _ .vmem, ⟨2, _⟩ => ⟨S256x7168, .bf16⟩
  | .local _ .vmem, ⟨3, _⟩ => ⟨S896x18432, .i8⟩
  | .local _ .vmem, ⟨4, _⟩ => ⟨S1x18432, .f32⟩
  | .local _ .vmem, ⟨5, _⟩ => ⟨S256x18432, .bf16⟩
  | .local _ .vmem, ⟨6, _⟩ => ⟨S256x18432, .bf16⟩
  | .local _ .vmem, ⟨7, _⟩ => ⟨S1x56x256, .i8⟩
  | .local _ .vmem, ⟨8, _⟩ => ⟨S1x56x256, .i8⟩
  | .local _ .vmem, ⟨9, _⟩ => ⟨S56x8x128, .i32⟩
  | .local _ .vmem, ⟨10, _⟩ => ⟨S16x128, .f32⟩
  | .local _ .vmem, ⟨11, _⟩ => ⟨S256x1024, .bf16⟩
  | .local _ .vmem, ⟨12, _⟩ => ⟨S128x128, .i32⟩
  | .local _ .smem, ⟨0, _⟩ => ⟨S4x56, .i32⟩
  | _, _ => ⟨S5x2048x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v6 : Ref sig .tc := ⟨.hbm, 12, rfl⟩
abbrev main_v7 : Ref sig .tc := ⟨.hbm, 13, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [BitOps F]

abbrev grid0 : Pipeline.Grid := ⟨1, ![40], ![false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  v127
def k0_off1 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v130 : Index := Scalar.indexCast v128
  let c0_45 : Index := 0#32
  ![v130.toNat, 0]
def k0_off2 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v159 : Index := Scalar.indexCast v128
  let c128_54 : Index := 128#32
  ![v159.toNat, 128]
def k0_off3 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v207 : Index := Scalar.indexCast v128
  let c256 : Index := 256#32
  ![v207.toNat, 256]
def k0_off4 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v255 : Index := Scalar.indexCast v128
  let c384 : Index := 384#32
  ![v255.toNat, 384]
def k0_off5 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v303 : Index := Scalar.indexCast v128
  let c512 : Index := 512#32
  ![v303.toNat, 512]
def k0_off6 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v351 : Index := Scalar.indexCast v128
  let c640 : Index := 640#32
  ![v351.toNat, 640]
def k0_off7 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v399 : Index := Scalar.indexCast v128
  let c768 : Index := 768#32
  ![v399.toNat, 768]
def k0_off8 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v447 : Index := Scalar.indexCast v128
  let c896 : Index := 896#32
  ![v447.toNat, 896]
def k0_off9 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v495 : Index := Scalar.indexCast v128
  let c1024 : Index := 1024#32
  ![v495.toNat, 1024]
def k0_off10 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v543 : Index := Scalar.indexCast v128
  let c1152 : Index := 1152#32
  ![v543.toNat, 1152]
def k0_off11 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v591 : Index := Scalar.indexCast v128
  let c1280 : Index := 1280#32
  ![v591.toNat, 1280]
def k0_off12 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v639 : Index := Scalar.indexCast v128
  let c1408 : Index := 1408#32
  ![v639.toNat, 1408]
def k0_off13 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v687 : Index := Scalar.indexCast v128
  let c1536 : Index := 1536#32
  ![v687.toNat, 1536]
def k0_off14 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v735 : Index := Scalar.indexCast v128
  let c1664 : Index := 1664#32
  ![v735.toNat, 1664]
def k0_off15 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v783 : Index := Scalar.indexCast v128
  let c1792 : Index := 1792#32
  ![v783.toNat, 1792]
def k0_off16 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v831 : Index := Scalar.indexCast v128
  let c1920 : Index := 1920#32
  ![v831.toNat, 1920]
def k0_off17 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v879 : Index := Scalar.indexCast v128
  let c2048 : Index := 2048#32
  ![v879.toNat, 2048]
def k0_off18 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v927 : Index := Scalar.indexCast v128
  let c2176 : Index := 2176#32
  ![v927.toNat, 2176]
def k0_off19 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v975 : Index := Scalar.indexCast v128
  let c2304 : Index := 2304#32
  ![v975.toNat, 2304]
def k0_off20 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v1023 : Index := Scalar.indexCast v128
  let c2432 : Index := 2432#32
  ![v1023.toNat, 2432]
def k0_off21 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v1071 : Index := Scalar.indexCast v128
  let c2560 : Index := 2560#32
  ![v1071.toNat, 2560]
def k0_off22 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v1119 : Index := Scalar.indexCast v128
  let c2688 : Index := 2688#32
  ![v1119.toNat, 2688]
def k0_off23 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v1167 : Index := Scalar.indexCast v128
  let c2816 : Index := 2816#32
  ![v1167.toNat, 2816]
def k0_off24 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v1215 : Index := Scalar.indexCast v128
  let c2944 : Index := 2944#32
  ![v1215.toNat, 2944]
def k0_off25 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v1263 : Index := Scalar.indexCast v128
  let c3072 : Index := 3072#32
  ![v1263.toNat, 3072]
def k0_off26 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v1311 : Index := Scalar.indexCast v128
  let c3200 : Index := 3200#32
  ![v1311.toNat, 3200]
def k0_off27 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v1359 : Index := Scalar.indexCast v128
  let c3328 : Index := 3328#32
  ![v1359.toNat, 3328]
def k0_off28 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v1407 : Index := Scalar.indexCast v128
  let c3456 : Index := 3456#32
  ![v1407.toNat, 3456]
def k0_off29 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v1455 : Index := Scalar.indexCast v128
  let c3584 : Index := 3584#32
  ![v1455.toNat, 3584]
def k0_off30 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v1503 : Index := Scalar.indexCast v128
  let c3712 : Index := 3712#32
  ![v1503.toNat, 3712]
def k0_off31 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v1551 : Index := Scalar.indexCast v128
  let c3840 : Index := 3840#32
  ![v1551.toNat, 3840]
def k0_off32 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v1599 : Index := Scalar.indexCast v128
  let c3968 : Index := 3968#32
  ![v1599.toNat, 3968]
def k0_off33 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v1647 : Index := Scalar.indexCast v128
  let c4096 : Index := 4096#32
  ![v1647.toNat, 4096]
def k0_off34 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v1676 : Index := Scalar.indexCast v128
  let c4224 : Index := 4224#32
  ![v1676.toNat, 4224]
def k0_off35 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v1724 : Index := Scalar.indexCast v128
  let c4352 : Index := 4352#32
  ![v1724.toNat, 4352]
def k0_off36 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v1772 : Index := Scalar.indexCast v128
  let c4480 : Index := 4480#32
  ![v1772.toNat, 4480]
def k0_off37 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v1820 : Index := Scalar.indexCast v128
  let c4608 : Index := 4608#32
  ![v1820.toNat, 4608]
def k0_off38 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v1868 : Index := Scalar.indexCast v128
  let c4736 : Index := 4736#32
  ![v1868.toNat, 4736]
def k0_off39 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v1916 : Index := Scalar.indexCast v128
  let c4864 : Index := 4864#32
  ![v1916.toNat, 4864]
def k0_off40 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v1964 : Index := Scalar.indexCast v128
  let c4992 : Index := 4992#32
  ![v1964.toNat, 4992]
def k0_off41 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v2012 : Index := Scalar.indexCast v128
  let c5120 : Index := 5120#32
  ![v2012.toNat, 5120]
def k0_off42 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v2060 : Index := Scalar.indexCast v128
  let c5248 : Index := 5248#32
  ![v2060.toNat, 5248]
def k0_off43 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v2108 : Index := Scalar.indexCast v128
  let c5376 : Index := 5376#32
  ![v2108.toNat, 5376]
def k0_off44 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v2156 : Index := Scalar.indexCast v128
  let c5504 : Index := 5504#32
  ![v2156.toNat, 5504]
def k0_off45 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v2204 : Index := Scalar.indexCast v128
  let c5632 : Index := 5632#32
  ![v2204.toNat, 5632]
def k0_off46 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v2252 : Index := Scalar.indexCast v128
  let c5760 : Index := 5760#32
  ![v2252.toNat, 5760]
def k0_off47 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v2300 : Index := Scalar.indexCast v128
  let c5888 : Index := 5888#32
  ![v2300.toNat, 5888]
def k0_off48 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v2348 : Index := Scalar.indexCast v128
  let c6016 : Index := 6016#32
  ![v2348.toNat, 6016]
def k0_off49 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v2396 : Index := Scalar.indexCast v128
  let c6144 : Index := 6144#32
  ![v2396.toNat, 6144]
def k0_off50 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v2444 : Index := Scalar.indexCast v128
  let c6272 : Index := 6272#32
  ![v2444.toNat, 6272]
def k0_off51 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v2492 : Index := Scalar.indexCast v128
  let c6400 : Index := 6400#32
  ![v2492.toNat, 6400]
def k0_off52 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v2540 : Index := Scalar.indexCast v128
  let c6528 : Index := 6528#32
  ![v2540.toNat, 6528]
def k0_off53 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v2588 : Index := Scalar.indexCast v128
  let c6656 : Index := 6656#32
  ![v2588.toNat, 6656]
def k0_off54 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v2636 : Index := Scalar.indexCast v128
  let c6784 : Index := 6784#32
  ![v2636.toNat, 6784]
def k0_off55 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v2684 : Index := Scalar.indexCast v128
  let c6912 : Index := 6912#32
  ![v2684.toNat, 6912]
def k0_off56 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v2732 : Index := Scalar.indexCast v128
  let c7040 : Index := 7040#32
  ![v2732.toNat, 7040]
def k0_mult2 (k0_t1 : Fin k0_t1_loop.trips) : BitVec 32 :=
  let c0_i32_1 : BitVec 32 := 0#32
  let c1_i32 : BitVec 32 := 1#32
  let arg12 : BitVec 32 := Scf.iv c0_i32_1 c1_i32 k0_t1
  let c8_i32_903 : BitVec 32 := 8#32
  let v2954 : BitVec 32 := Scalar.muli arg12 c8_i32_903
  v2954
def k0_off57 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c8_i32_903 : BitVec 32 := 8#32
  let v2954 : BitVec 32 := Scalar.muli arg12 c8_i32_903
  let v2955 : BitVec 32 := v2954
  let v2956 : Index := Scalar.indexCast v2955
  let c0_904 : Index := 0#32
  ![v2956.toNat, 0]
def k0_off58 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v3029 : Index := Scalar.indexCast v128
  let c0_925 : Index := 0#32
  ![v3029.toNat, 0]
def k0_off59 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v3102 : Index := Scalar.indexCast v128
  let c128_950 : Index := 128#32
  ![v3102.toNat, 128]
def k0_off60 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v3175 : Index := Scalar.indexCast v128
  let c256_975 : Index := 256#32
  ![v3175.toNat, 256]
def k0_off61 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v3248 : Index := Scalar.indexCast v128
  let c384_1000 : Index := 384#32
  ![v3248.toNat, 384]
def k0_off62 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v3321 : Index := Scalar.indexCast v128
  let c512_1025 : Index := 512#32
  ![v3321.toNat, 512]
def k0_off63 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v3394 : Index := Scalar.indexCast v128
  let c640_1049 : Index := 640#32
  ![v3394.toNat, 640]
def k0_off64 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v3467 : Index := Scalar.indexCast v128
  let c768_1073 : Index := 768#32
  ![v3467.toNat, 768]
def k0_off65 (k0_t1 : Fin k0_t1_loop.trips) : Fin 2 → Nat :=
  let c0_i32_1 : BitVec 32 := 0#32
  let c1_i32 : BitVec 32 := 1#32
  let arg12 : BitVec 32 := Scf.iv c0_i32_1 c1_i32 k0_t1
  let c16_i32_44 : BitVec 32 := 16#32
  let v127 : BitVec 32 := Scalar.muli arg12 c16_i32_44
  let v128 : BitVec 32 := v127
  let v3540 : Index := Scalar.indexCast v128
  let c896_1096 : Index := 896#32
  ![v3540.toNat, 896]
@[reducible] def k0_t2_loop : Scf.Loop 32 :=
  let c0_i32_41 : BitVec 32 := 0#32
  let c36_i32 : BitVec 32 := 36#32
  let v126 : BitVec 32 := Scalar.addi c0_i32_41 c36_i32
  let c1_i32_42 : BitVec 32 := 1#32
  ⟨c0_i32_41, v126, c1_i32_42⟩
def k0_mult3 (k0_t2 : Fin k0_t2_loop.trips) : BitVec 32 :=
  let c0_i32_41 : BitVec 32 := 0#32
  let c1_i32_42 : BitVec 32 := 1#32
  let arg12 : BitVec 32 := Scf.iv c0_i32_41 c1_i32_42 k0_t2
  let c2_i32_44 : BitVec 32 := 2#32
  let v127 : BitVec 32 := Scalar.muli arg12 c2_i32_44
  let c256_i32 : BitVec 32 := 256#32
  let v128 : BitVec 32 := Scalar.muli v127 c256_i32
  v128
def k0_off66 (k0_t2 : Fin k0_t2_loop.trips) : Fin 2 → Nat :=
  let c0_45 : Index := 0#32
  let c0_i32_41 : BitVec 32 := 0#32
  let c1_i32_42 : BitVec 32 := 1#32
  let arg12 : BitVec 32 := Scf.iv c0_i32_41 c1_i32_42 k0_t2
  let c2_i32_44 : BitVec 32 := 2#32
  let v127 : BitVec 32 := Scalar.muli arg12 c2_i32_44
  let c256_i32 : BitVec 32 := 256#32
  let v128 : BitVec 32 := Scalar.muli v127 c256_i32
  let v129 : BitVec 32 := v128
  let v130 : Index := Scalar.indexCast v129
  ![0, v130.toNat]
def k0_off67 (k0_t2 : Fin k0_t2_loop.trips) : Fin 2 → Nat :=
  let c0_52 : Index := 0#32
  let c0_i32_41 : BitVec 32 := 0#32
  let c1_i32_42 : BitVec 32 := 1#32
  let arg12 : BitVec 32 := Scf.iv c0_i32_41 c1_i32_42 k0_t2
  let c2_i32_44 : BitVec 32 := 2#32
  let v127 : BitVec 32 := Scalar.muli arg12 c2_i32_44
  let c256_i32 : BitVec 32 := 256#32
  let v128 : BitVec 32 := Scalar.muli v127 c256_i32
  let v129 : BitVec 32 := v128
  let v146 : Index := Scalar.indexCast v129
  ![0, v146.toNat]
def k0_off68 (k0_t2 : Fin k0_t2_loop.trips) : Fin 2 → Nat :=
  let c0_54 : Index := 0#32
  let c0_i32_41 : BitVec 32 := 0#32
  let c1_i32_42 : BitVec 32 := 1#32
  let arg12 : BitVec 32 := Scf.iv c0_i32_41 c1_i32_42 k0_t2
  let c2_i32_44 : BitVec 32 := 2#32
  let v127 : BitVec 32 := Scalar.muli arg12 c2_i32_44
  let c256_i32 : BitVec 32 := 256#32
  let v128 : BitVec 32 := Scalar.muli v127 c256_i32
  let v129 : BitVec 32 := v128
  let v160 : Index := Scalar.indexCast v129
  ![0, v160.toNat]
def k0_off69 (k0_t2 : Fin k0_t2_loop.trips) : Fin 2 → Nat :=
  let c0_56 : Index := 0#32
  let c0_i32_41 : BitVec 32 := 0#32
  let c1_i32_42 : BitVec 32 := 1#32
  let arg12 : BitVec 32 := Scf.iv c0_i32_41 c1_i32_42 k0_t2
  let c2_i32_44 : BitVec 32 := 2#32
  let v127 : BitVec 32 := Scalar.muli arg12 c2_i32_44
  let c256_i32 : BitVec 32 := 256#32
  let v128 : BitVec 32 := Scalar.muli v127 c256_i32
  let v129 : BitVec 32 := v128
  let c256_i32_55 : BitVec 32 := 256#32
  let v163 : BitVec 32 := Scalar.addi v129 c256_i32_55
  let v164 : Index := Scalar.indexCast v163
  ![0, v164.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .smem S4x56 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S15x56 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x7168 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S896x18432 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x18432 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x18432 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x56x256 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F]
-- ==== ReferenceIdeal.lean ====
abbrev S5x2048x7168 : Shape := ⟨3, ![5, 2048, 7168]⟩
abbrev S56x4 : Shape := ⟨2, ![56, 4]⟩
abbrev S56x15 : Shape := ⟨2, ![56, 15]⟩
abbrev S56x16x18432 : Shape := ⟨3, ![56, 16, 18432]⟩
abbrev S18432 : Shape := ⟨1, ![18432]⟩
abbrev S_ : Shape := ⟨0, ![]⟩
abbrev S56x4x1 : Shape := ⟨3, ![56, 4, 1]⟩
abbrev S5x2048x56x4 : Shape := ⟨4, ![5, 2048, 56, 4]⟩
abbrev S56 : Shape := ⟨1, ![56]⟩
abbrev S5x2048x56 : Shape := ⟨3, ![5, 2048, 56]⟩
abbrev S5x2048x56x1 : Shape := ⟨4, ![5, 2048, 56, 1]⟩
abbrev S5x2048x56x2 : Shape := ⟨4, ![5, 2048, 56, 2]⟩
abbrev S16 : Shape := ⟨1, ![16]⟩
abbrev S1x1x1x16 : Shape := ⟨4, ![1, 1, 1, 16]⟩
abbrev S5x2048x56x16 : Shape := ⟨4, ![5, 2048, 56, 16]⟩
abbrev S5x2048x18432 : Shape := ⟨3, ![5, 2048, 18432]⟩
abbrev S1x1x18432 : Shape := ⟨3, ![1, 1, 18432]⟩

abbrev nBuf : Space → Nat
  | .hbm => 154
  | .vmem => 0
  | .smem => 0
  | _ => 0

abbrev hbmTy0_0 (i : Nat) : BufTy := match i % 128 with
  | 0 => ⟨S5x2048x7168, .bf16⟩
  | 1 => ⟨S56x4, .i32⟩
  | 2 => ⟨S56x15, .bf16⟩
  | 3 => ⟨S56x16x18432, .i8⟩
  | 4 => ⟨S18432, .f32⟩
  | 5 => ⟨S_, .i32⟩
  | 6 => ⟨S56x4, .i32⟩
  | 7 => ⟨S56x4, .i1⟩
  | 8 => ⟨S_, .i32⟩
  | 9 => ⟨S56x4, .i32⟩
  | 10 => ⟨S56x4, .i32⟩
  | 11 => ⟨S56x4, .i32⟩
  | 12 => ⟨S56x4x1, .i32⟩
  | 13 => ⟨S5x2048x56x4, .bf16⟩
  | 14 => ⟨S56, .i32⟩
  | 15 => ⟨S_, .i32⟩
  | 16 => ⟨S5x2048x56, .i32⟩
  | 17 => ⟨S_, .i32⟩
  | 18 => ⟨S5x2048x56, .i32⟩
  | 19 => ⟨S5x2048x56, .i32⟩
  | 20 => ⟨S_, .i32⟩
  | 21 => ⟨S56, .i32⟩
  | 22 => ⟨S56, .i1⟩
  | 23 => ⟨S_, .i32⟩
  | 24 => ⟨S56, .i32⟩
  | 25 => ⟨S56, .i32⟩
  | 26 => ⟨S56, .i32⟩
  | 27 => ⟨S_, .i32⟩
  | 28 => ⟨S5x2048x56, .i32⟩
  | 29 => ⟨S5x2048x56, .i1⟩
  | 30 => ⟨S_, .i32⟩
  | 31 => ⟨S5x2048x56, .i32⟩
  | 32 => ⟨S5x2048x56, .i32⟩
  | 33 => ⟨S5x2048x56, .i32⟩
  | 34 => ⟨S5x2048x56, .i32⟩
  | 35 => ⟨S5x2048x56x1, .i32⟩
  | 36 => ⟨S5x2048x56x1, .i32⟩
  | 37 => ⟨S5x2048x56x2, .i32⟩
  | 38 => ⟨S5x2048x56, .bf16⟩
  | 39 => ⟨S5x2048x56x1, .bf16⟩
  | 40 => ⟨S5x2048x56, .bf16⟩
  | 41 => ⟨S5x2048x56, .i1⟩
  | 42 => ⟨S5x2048x56, .i32⟩
  | 43 => ⟨S_, .i32⟩
  | 44 => ⟨S5x2048x56, .i32⟩
  | 45 => ⟨S5x2048x56, .i32⟩
  | 46 => ⟨S5x2048x56, .i32⟩
  | 47 => ⟨S_, .i32⟩
  | 48 => ⟨S5x2048x56, .i32⟩
  | 49 => ⟨S5x2048x56, .i32⟩
  | 50 => ⟨S_, .i32⟩
  | 51 => ⟨S56, .i32⟩
  | 52 => ⟨S56, .i1⟩
  | 53 => ⟨S_, .i32⟩
  | 54 => ⟨S56, .i32⟩
  | 55 => ⟨S56, .i32⟩
  | 56 => ⟨S56, .i32⟩
  | 57 => ⟨S_, .i32⟩
  | 58 => ⟨S5x2048x56, .i32⟩
  | 59 => ⟨S5x2048x56, .i1⟩
  | 60 => ⟨S_, .i32⟩
  | 61 => ⟨S5x2048x56, .i32⟩
  | 62 => ⟨S5x2048x56, .i32⟩
  | 63 => ⟨S5x2048x56, .i32⟩
  | 64 => ⟨S5x2048x56, .i32⟩
  | 65 => ⟨S5x2048x56x1, .i32⟩
  | 66 => ⟨S5x2048x56x1, .i32⟩
  | 67 => ⟨S5x2048x56x2, .i32⟩
  | 68 => ⟨S5x2048x56, .bf16⟩
  | 69 => ⟨S5x2048x56x1, .bf16⟩
  | 70 => ⟨S5x2048x56, .bf16⟩
  | 71 => ⟨S5x2048x56, .i1⟩
  | 72 => ⟨S5x2048x56, .i32⟩
  | 73 => ⟨S_, .i32⟩
  | 74 => ⟨S5x2048x56, .i32⟩
  | 75 => ⟨S5x2048x56, .i32⟩
  | 76 => ⟨S5x2048x56, .i32⟩
  | 77 => ⟨S_, .i32⟩
  | 78 => ⟨S5x2048x56, .i32⟩
  | 79 => ⟨S5x2048x56, .i32⟩
  | 80 => ⟨S_, .i32⟩
  | 81 => ⟨S56, .i32⟩
  | 82 => ⟨S56, .i1⟩
  | 83 => ⟨S_, .i32⟩
  | 84 => ⟨S56, .i32⟩
  | 85 => ⟨S56, .i32⟩
  | 86 => ⟨S56, .i32⟩
  | 87 => ⟨S_, .i32⟩
  | 88 => ⟨S5x2048x56, .i32⟩
  | 89 => ⟨S5x2048x56, .i1⟩
  | 90 => ⟨S_, .i32⟩
  | 91 => ⟨S5x2048x56, .i32⟩
  | 92 => ⟨S5x2048x56, .i32⟩
  | 93 => ⟨S5x2048x56, .i32⟩
  | 94 => ⟨S5x2048x56, .i32⟩
  | 95 => ⟨S5x2048x56x1, .i32⟩
  | 96 => ⟨S5x2048x56x1, .i32⟩
  | 97 => ⟨S5x2048x56x2, .i32⟩
  | 98 => ⟨S5x2048x56, .bf16⟩
  | 99 => ⟨S5x2048x56x1, .bf16⟩
  | 100 => ⟨S5x2048x56, .bf16⟩
  | 101 => ⟨S5x2048x56, .i1⟩
  | 102 => ⟨S5x2048x56, .i32⟩
  | 103 => ⟨S_, .i32⟩
  | 104 => ⟨S5x2048x56, .i32⟩
  | 105 => ⟨S5x2048x56, .i32⟩
  | 106 => ⟨S5x2048x56, .i32⟩
  | 107 => ⟨S_, .i32⟩
  | 108 => ⟨S5x2048x56, .i32⟩
  | 109 => ⟨S5x2048x56, .i32⟩
  | 110 => ⟨S_, .i32⟩
  | 111 => ⟨S56, .i32⟩
  | 112 => ⟨S56, .i1⟩
  | 113 => ⟨S_, .i32⟩
  | 114 => ⟨S56, .i32⟩
  | 115 => ⟨S56, .i32⟩
  | 116 => ⟨S56, .i32⟩
  | 117 => ⟨S_, .i32⟩
  | 118 => ⟨S5x2048x56, .i32⟩
  | 119 => ⟨S5x2048x56, .i1⟩
  | 120 => ⟨S_, .i32⟩
  | 121 => ⟨S5x2048x56, .i32⟩
  | 122 => ⟨S5x2048x56, .i32⟩
  | 123 => ⟨S5x2048x56, .i32⟩
  | 124 => ⟨S5x2048x56, .i32⟩
  | 125 => ⟨S5x2048x56x1, .i32⟩
  | 126 => ⟨S5x2048x56x1, .i32⟩
  | 127 => ⟨S5x2048x56x2, .i32⟩
  | _ => ⟨S5x2048x7168, .bf16⟩

abbrev hbmTy0_1 (i : Nat) : BufTy := match i % 128 with
  | 0 => ⟨S5x2048x56, .bf16⟩
  | 1 => ⟨S5x2048x56x1, .bf16⟩
  | 2 => ⟨S5x2048x56, .bf16⟩
  | 3 => ⟨S5x2048x56, .i1⟩
  | 4 => ⟨S5x2048x56, .i32⟩
  | 5 => ⟨S_, .i32⟩
  | 6 => ⟨S5x2048x56, .i32⟩
  | 7 => ⟨S5x2048x56, .i32⟩
  | 8 => ⟨S5x2048x56, .i32⟩
  | 9 => ⟨S5x2048x56, .i8⟩
  | 10 => ⟨S5x2048x56x1, .i8⟩
  | 11 => ⟨S16, .i32⟩
  | 12 => ⟨S16, .i8⟩
  | 13 => ⟨S1x1x1x16, .i8⟩
  | 14 => ⟨S5x2048x56x16, .i8⟩
  | 15 => ⟨S5x2048x56x16, .i8⟩
  | 16 => ⟨S5x2048x56x16, .i1⟩
  | 17 => ⟨S5x2048x56x16, .bf16⟩
  | 18 => ⟨S56x16x18432, .i32⟩
  | 19 => ⟨S56x16x18432, .f32⟩
  | 20 => ⟨S56x16x18432, .bf16⟩
  | 21 => ⟨S5x2048x18432, .f32⟩
  | 22 => ⟨S1x1x18432, .f32⟩
  | 23 => ⟨S5x2048x18432, .f32⟩
  | 24 => ⟨S5x2048x18432, .f32⟩
  | 25 => ⟨S5x2048x18432, .bf16⟩
  | _ => ⟨S5x2048x7168, .bf16⟩

abbrev hbmTy (i : Nat) : BufTy := match i / 128 with
  | 0 => hbmTy0_0 i
  | 1 => hbmTy0_1 i
  | _ => ⟨S5x2048x7168, .bf16⟩

abbrev bufTy : (tb : Table) → Fin (tcTables nBuf tb) → BufTy
  | .hbm, ⟨i, _⟩ => hbmTy i
  | _, _ => ⟨S5x2048x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_5 : Ref sig .tc := ⟨.hbm, 27, rfl⟩
abbrev main_v16 : Ref sig .tc := ⟨.hbm, 28, rfl⟩
abbrev main_v17 : Ref sig .tc := ⟨.hbm, 29, rfl⟩
abbrev main_c_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_c_9 : Ref sig .tc := ⟨.hbm, 50, rfl⟩
abbrev main_v35 : Ref sig .tc := ⟨.hbm, 51, rfl⟩
abbrev main_v36 : Ref sig .tc := ⟨.hbm, 52, rfl⟩
abbrev main_c_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_11 : Ref sig .tc := ⟨.hbm, 57, rfl⟩
abbrev main_v40 : Ref sig .tc := ⟨.hbm, 58, rfl⟩
abbrev main_v41 : Ref sig .tc := ⟨.hbm, 59, rfl⟩
abbrev main_c_12 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_13 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_14 : Ref sig .tc := ⟨.hbm, 77, rfl⟩
abbrev main_v57 : Ref sig .tc := ⟨.hbm, 78, rfl⟩
abbrev main_v58 : Ref sig .tc := ⟨.hbm, 79, rfl⟩
abbrev main_c_15 : Ref sig .tc := ⟨.hbm, 80, rfl⟩
abbrev main_v59 : Ref sig .tc := ⟨.hbm, 81, rfl⟩
abbrev main_v60 : Ref sig .tc := ⟨.hbm, 82, rfl⟩
abbrev main_c_16 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_17 : Ref sig .tc := ⟨.hbm, 87, rfl⟩
abbrev main_v64 : Ref sig .tc := ⟨.hbm, 88, rfl⟩
abbrev main_v65 : Ref sig .tc := ⟨.hbm, 89, rfl⟩
abbrev main_c_18 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_c_19 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_20 : Ref sig .tc := ⟨.hbm, 107, rfl⟩
abbrev main_v81 : Ref sig .tc := ⟨.hbm, 108, rfl⟩
abbrev main_v82 : Ref sig .tc := ⟨.hbm, 109, rfl⟩
abbrev main_c_21 : Ref sig .tc := ⟨.hbm, 110, rfl⟩
abbrev main_v83 : Ref sig .tc := ⟨.hbm, 111, rfl⟩
abbrev main_v84 : Ref sig .tc := ⟨.hbm, 112, rfl⟩
abbrev main_c_22 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_c_23 : Ref sig .tc := ⟨.hbm, 117, rfl⟩
abbrev main_v88 : Ref sig .tc := ⟨.hbm, 118, rfl⟩
abbrev main_v89 : Ref sig .tc := ⟨.hbm, 119, rfl⟩
abbrev main_c_24 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_c_25 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩

abbrev nD : Nat := 1
abbrev τ : Topo := Topo.v7x

variable {F : FTy → Type} [FloatOps F]
-- ==== Proof.KRunA.lean ====
/- The whole-body run of the kernel body in case A of its frame (case A: the first grid point, which also fills the two
   tables; case B: every later point). A copy of the generated module with one step added: the second loop reads the
   scratch buffer that the first loop fills, and `hw` says that what it reads does not depend on what the buffer held
   before, because the pieces of the sixteen trips cover it. -/
module

public import proofs.«01_k».proof.Proof.Gen.Kernel.Frame.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 2284000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : cond0_0 i)
    (x0 : Vec F S4x56 .i32) (x1 : Vec F S15x56 .bf16) (x2 : Vec F S256x7168 .bf16) (x3 : Vec F S896x18432 .i8) (x4 : Vec F S1x18432 .f32) :
    Σ' (L5 : List (View.Piece (Elt F) S256x18432 .bf16)), Σ' (L6 : List (View.Piece (Elt F) S1x56x256 .i8)), Σ' (LS0 : List (View.Piece (Elt F) S56x8x128 .i32)), { LS1 : List (View.Piece (Elt F) S16x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ d, owns (c : Thread nD τ) arg10 fullShare d) ∗ (∃ d, owns (c : Thread nD τ) arg11 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__body_eq_skeleton]; unfold cc0__body_skel
    simp only [k0_part120_eq_skeleton, k0_part41_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part121_eq_skeleton, k0_part122_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4
    have hrd0 : ∀ (𝒱 : Variants) (c : Dev nD) (bd : Option 𝒱.V) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (X_arg3 : BufTy.Contents (Elt F) arg3.view.ty) (X_arg8 : BufTy.Contents (Elt F) arg8.view.ty) (X_arg9 : BufTy.Contents (Elt F) arg9.view.ty) (hrdF : BufTy.Contents (Elt F) arg11.view.ty) (hrdB : LoadRect S128x128), arg11.view.readAt (Elt F) hrdB (arg11.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 X_arg3 X_arg8 X_arg9 (Scf.trips k0_t1_loop.lb k0_t1_loop.ub k0_t1_loop.st)).2) = arg11.view.readCov (pb_k0_t1 (F := F) 𝒱 c bd i arg1 harg1 arg2 harg2 arg3 harg3 arg4 harg4 arg5 harg5 arg6 harg6 arg7 harg7 arg8 harg8 arg9 harg9 arg10 harg10 arg11 harg11 X_arg3 X_arg8 X_arg9 (Scf.trips k0_t1_loop.lb k0_t1_loop.ub k0_t1_loop.st)).2 hrdB := fun 𝒱 c bd i arg1 harg1 arg2 harg2 arg3 harg3 arg4 harg4 arg5 harg5 arg6 harg6 arg7 harg7 arg8 harg8 arg9 harg9 arg10 harg10 arg11 harg11 X_arg3 X_arg8 X_arg9 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 X_arg3 X_arg8 X_arg9 (Scf.trips k0_t1_loop.lb k0_t1_loop.ub k0_t1_loop.st)).2 S8x128.size (by sl_kernel_rfl) (hrdB.idx hrdJ))
    have hw : ∀ (g : BufTy.Contents (Elt F) arg10.view.ty) (L : List (View.Piece (Elt F) S256x1024 .bf16)), View.Piece.tiledL L S16x128.size = true → arg10.view.writes (Elt F) g L = arg10.view.writes (Elt F) arg10.view.junk L :=
      fun g L hL => (harg10.eq_unread rfl).trans ((congrArg _ (View.read_writes_of_cover _ _ _ _ _ (View.cover_of_tiledL L S16x128.size hL))).trans (harg10.eq_unread rfl).symm)
    sl_exec (disch := first | sl_exact hc0)
    sl_step
    rw [hw fs2 _ (by sl_kernel_rfl)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]; · iexists _; iexact HS0
    isplitl [HS1]; · iexists _; iexact HS1
    isplitl [HS2]
    · iexists _, _; isplitr; swap; · iexact HS2
      ipureintro; rfl
    iexists _, _; isplitr; swap; · iexact HS3
    ipureintro; rfl

end Cert.Kernel.Gen

end
-- ==== Proof.KRunB.lean ====
/- The whole-body run of the kernel body in case B of its frame (case A: the first grid point, which also fills the two
   tables; case B: every later point). A copy of the generated module with one step added: the second loop reads the
   scratch buffer that the first loop fills, and `hw` says that what it reads does not depend on what the buffer held
   before, because the pieces of the sixteen trips cover it. -/
module

public import proofs.«01_k».proof.Proof.KRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- What the body's stores leave in each output's staging memref, as pieces (last first) IN CASE B (`scf.if` 0 not taken: points 1, 2, … 39: 39 of 40), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : ¬cond0_0 i)
    (x0 : Vec F S4x56 .i32) (x1 : Vec F S15x56 .bf16) (x2 : Vec F S256x7168 .bf16) (x3 : Vec F S896x18432 .i8) (x4 : Vec F S1x18432 .f32) (xs0 : Vec F S56x8x128 .i32) (xs1 : Vec F S16x128 .f32) :
    Σ' (L5 : List (View.Piece (Elt F) S256x18432 .bf16)), Σ' (L6 : List (View.Piece (Elt F) S1x56x256 .i8)), Σ' (LS0 : List (View.Piece (Elt F) S56x8x128 .i32)), { LS1 : List (View.Piece (Elt F) S16x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xs0 ∗ owns (c : Thread nD τ) arg9 fullShare xs1 ∗ (∃ d, owns (c : Thread nD τ) arg10 fullShare d) ∗ (∃ d, owns (c : Thread nD τ) arg11 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, ?_, [], [], fun E K => ?run⟩
  case run =>
    simp only [cc0__body_eq_skeleton]; unfold cc0__body_skel
    simp only [k0_part120_eq_skeleton, k0_part121_eq_skeleton, k0_part122_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs0; obtain rfl := harg9.eq_unread hfs1
    have hrd0 : ∀ (𝒱 : Variants) (c : Dev nD) (bd : Option 𝒱.V) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (X_arg3 : BufTy.Contents (Elt F) arg3.view.ty) (X_arg8 : BufTy.Contents (Elt F) arg8.view.ty) (X_arg9 : BufTy.Contents (Elt F) arg9.view.ty) (hrdF : BufTy.Contents (Elt F) arg11.view.ty) (hrdB : LoadRect S128x128), arg11.view.readAt (Elt F) hrdB (arg11.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 X_arg3 X_arg8 X_arg9 (Scf.trips k0_t1_loop.lb k0_t1_loop.ub k0_t1_loop.st)).2) = arg11.view.readCov (pb_k0_t1 (F := F) 𝒱 c bd i arg1 harg1 arg2 harg2 arg3 harg3 arg4 harg4 arg5 harg5 arg6 harg6 arg7 harg7 arg8 harg8 arg9 harg9 arg10 harg10 arg11 harg11 X_arg3 X_arg8 X_arg9 (Scf.trips k0_t1_loop.lb k0_t1_loop.ub k0_t1_loop.st)).2 hrdB := fun 𝒱 c bd i arg1 harg1 arg2 harg2 arg3 harg3 arg4 harg4 arg5 harg5 arg6 harg6 arg7 harg7 arg8 harg8 arg9 harg9 arg10 harg10 arg11 harg11 X_arg3 X_arg8 X_arg9 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 X_arg3 X_arg8 X_arg9 (Scf.trips k0_t1_loop.lb k0_t1_loop.ub k0_t1_loop.st)).2 S8x128.size (by sl_kernel_rfl) (hrdB.idx hrdJ))
    have hw : ∀ (g : BufTy.Contents (Elt F) arg10.view.ty) (L : List (View.Piece (Elt F) S256x1024 .bf16)), View.Piece.tiledL L S16x128.size = true → arg10.view.writes (Elt F) g L = arg10.view.writes (Elt F) arg10.view.junk L :=
      fun g L hL => (harg10.eq_unread rfl).trans ((congrArg _ (View.read_writes_of_cover _ _ _ _ _ (View.cover_of_tiledL L S16x128.size hL))).trans (harg10.eq_unread rfl).symm)
    sl_exec (disch := first | sl_exact hc0)
    sl_step
    rw [hw fs2 _ (by sl_kernel_rfl)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]
    · iexists _; isplitr; · ipureintro; exact harg8.read_unread _
      iexact HS0
    isplitl [HS1]
    · iexists _; isplitr; · ipureintro; exact harg9.read_unread _
      iexact HS1
    isplitl [HS2]
    · iexists _, _; isplitr; swap; · iexact HS2
      ipureintro; rfl
    iexists _, _; isplitr; swap; · iexact HS3
    ipureintro; rfl

end Cert.Kernel.Gen

end
-- ==== Proof.KFrame.lean ====
/- The launch of the kernel at any float semantics: what each grid point leaves, the run of the whole program, and its frame.
   A copy of the generated module over the two runs of `KRunA` and `KRunB`. -/
module

public import proofs.«01_k».proof.Proof.KRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- Case A's pieces for output 5 tile its block (72 stores of `S256x256`, checked by the kernel's evaluation: Lib/Ring.lean `Piece.tiledL`, linear in the pieces, through a loop's `@[irreducible]` trip theorem too), so they cover it. -/
theorem cover0_A_5 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : cond0_0 i)
    (x0 : Vec F S4x56 .i32) (x1 : Vec F S15x56 .bf16) (x2 : Vec F S256x7168 .bf16) (x3 : Vec F S896x18432 .i8) (x4 : Vec F S1x18432 .f32) (y : S256x18432.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 x0 x1 x2 x3 x4).1 S256x256.size (by sl_kernel_rfl) y

/-- What case A leaves in output 5's staging buffer: its pieces read back over junk. -/
def out0_A_5 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : cond0_0 i)
    (x0 : Vec F S4x56 .i32) (x1 : Vec F S15x56 .bf16) (x2 : Vec F S256x7168 .bf16) (x3 : Vec F S896x18432 .i8) (x4 : Vec F S1x18432 .f32) : Vec F S256x18432 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 arg11 harg11 hc0 x0 x1 x2 x3 x4).1)

/-- Case A's pieces for output 6 tile its block (2 stores of `S1x56x128`, checked by the kernel's evaluation: Lib/Ring.lean `Piece.tiledL`, linear in the pieces, through a loop's `@[irreducible]` trip theorem too), so they cover it. -/
theorem cover0_A_6 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : cond0_0 i)
    (x0 : Vec F S4x56 .i32) (x1 : Vec F S15x56 .bf16) (x2 : Vec F S256x7168 .bf16) (x3 : Vec F S896x18432 .i8) (x4 : Vec F S1x18432 .f32) (y : S1x56x256.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 x0 x1 x2 x3 x4).2.1 S1x56x128.size (by sl_kernel_rfl) y

/-- What case A leaves in output 6's staging buffer: its pieces read back over junk. -/
def out0_A_6 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : cond0_0 i)
    (x0 : Vec F S4x56 .i32) (x1 : Vec F S15x56 .bf16) (x2 : Vec F S256x7168 .bf16) (x3 : Vec F S896x18432 .i8) (x4 : Vec F S1x18432 .f32) : Vec F S1x56x256 .i8 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 x0 x1 x2 x3 x4).2.1)

/-- Case A's pieces for scratch `arg8`, which the kernel carries between points, cover it: 56 pieces of `S1x8x128` tiling it (Lib/Ring.lean `Piece.tiledL`). -/
theorem scover0_A_0 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : cond0_0 i)
    (x0 : Vec F S4x56 .i32) (x1 : Vec F S15x56 .bf16) (x2 : Vec F S256x7168 .bf16) (x3 : Vec F S896x18432 .i8) (x4 : Vec F S1x18432 .f32) (y : S56x8x128.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 x0 x1 x2 x3 x4).2.2.1 S1x8x128.size (by sl_kernel_rfl) y

/-- What case A leaves in scratch `arg8`: its pieces read back over junk. -/
def sout0_A_0 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : cond0_0 i)
    (x0 : Vec F S4x56 .i32) (x1 : Vec F S15x56 .bf16) (x2 : Vec F S256x7168 .bf16) (x3 : Vec F S896x18432 .i8) (x4 : Vec F S1x18432 .f32) : Vec F S56x8x128 .i32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 x0 x1 x2 x3 x4).2.2.1)

/-- Case A's pieces for scratch `arg9`, which the kernel carries between points, cover it: one of them a store of the WHOLE buffer (Lib/Ring.lean `sl_whole_mem`). -/
theorem scover0_A_1 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : cond0_0 i)
    (x0 : Vec F S4x56 .i32) (x1 : Vec F S15x56 .bf16) (x2 : Vec F S256x7168 .bf16) (x3 : Vec F S896x18432 .i8) (x4 : Vec F S1x18432 .f32) (y : S16x128.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 hc0 x0 x1 x2 x3 x4).2.2.2.1 (by sl_whole_mem) y

/-- What case A leaves in scratch `arg9`: its pieces read back over junk. -/
def sout0_A_1 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : cond0_0 i)
    (x0 : Vec F S4x56 .i32) (x1 : Vec F S15x56 .bf16) (x2 : Vec F S256x7168 .bf16) (x3 : Vec F S896x18432 .i8) (x4 : Vec F S1x18432 .f32) : Vec F S16x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 x0 x1 x2 x3 x4).2.2.2.1)

/-- Case B's pieces for output 5 tile its block (72 stores of `S256x256`, checked by the kernel's evaluation: Lib/Ring.lean `Piece.tiledL`, linear in the pieces, through a loop's `@[irreducible]` trip theorem too), so they cover it. -/
theorem cover0_B_5 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : ¬cond0_0 i)
    (x0 : Vec F S4x56 .i32) (x1 : Vec F S15x56 .bf16) (x2 : Vec F S256x7168 .bf16) (x3 : Vec F S896x18432 .i8) (x4 : Vec F S1x18432 .f32) (xs0 : Vec F S56x8x128 .i32) (xs1 : Vec F S16x128 .f32) (y : S256x18432.Idx) :
    ∃ pc ∈ (kernelRun0_B c i arg1 harg1 arg2 harg2 arg3 harg3 arg4 harg4 arg5 harg5 arg6 harg6 arg7 harg7 arg8 harg8 arg9 harg9 arg10 harg10 arg11 harg11 hc0 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 x0 x1 x2 x3 x4 xs0 xs1).1 S256x256.size (by sl_kernel_rfl) y

/-- What case B leaves in output 5's staging buffer: its pieces read back over junk. -/
def out0_B_5 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : ¬cond0_0 i)
    (x0 : Vec F S4x56 .i32) (x1 : Vec F S15x56 .bf16) (x2 : Vec F S256x7168 .bf16) (x3 : Vec F S896x18432 .i8) (x4 : Vec F S1x18432 .f32) (xs0 : Vec F S56x8x128 .i32) (xs1 : Vec F S16x128 .f32) : Vec F S256x18432 .bf16 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 arg11 harg11 hc0 x0 x1 x2 x3 x4 xs0 xs1).1)

/-- Case B's pieces for output 6 tile its block (2 stores of `S1x56x128`, checked by the kernel's evaluation: Lib/Ring.lean `Piece.tiledL`, linear in the pieces, through a loop's `@[irreducible]` trip theorem too), so they cover it. -/
theorem cover0_B_6 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : ¬cond0_0 i)
    (x0 : Vec F S4x56 .i32) (x1 : Vec F S15x56 .bf16) (x2 : Vec F S256x7168 .bf16) (x3 : Vec F S896x18432 .i8) (x4 : Vec F S1x18432 .f32) (xs0 : Vec F S56x8x128 .i32) (xs1 : Vec F S16x128 .f32) (y : S1x56x256.Idx) :
    ∃ pc ∈ (kernelRun0_B c i arg1 harg1 arg2 harg2 arg3 harg3 arg4 harg4 arg5 harg5 arg6 harg6 arg7 harg7 arg8 harg8 arg9 harg9 arg10 harg10 arg11 harg11 hc0 x0 x1 x2 x3 x4 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 x0 x1 x2 x3 x4 xs0 xs1).2.1 S1x56x128.size (by sl_kernel_rfl) y

/-- What case B leaves in output 6's staging buffer: its pieces read back over junk. -/
def out0_B_6 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : ¬cond0_0 i)
    (x0 : Vec F S4x56 .i32) (x1 : Vec F S15x56 .bf16) (x2 : Vec F S256x7168 .bf16) (x3 : Vec F S896x18432 .i8) (x4 : Vec F S1x18432 .f32) (xs0 : Vec F S56x8x128 .i32) (xs1 : Vec F S16x128 .f32) : Vec F S1x56x256 .i8 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 x0 x1 x2 x3 x4 xs0 xs1).2.1)

/-- Case B stores nothing into scratch `arg8`: it holds what the point before left. -/
def sout0_B_0 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : ¬cond0_0 i)
    (x0 : Vec F S4x56 .i32) (x1 : Vec F S15x56 .bf16) (x2 : Vec F S256x7168 .bf16) (x3 : Vec F S896x18432 .i8) (x4 : Vec F S1x18432 .f32) (xs0 : Vec F S56x8x128 .i32) (xs1 : Vec F S16x128 .f32) : Vec F S56x8x128 .i32 := xs0

/-- Case B stores nothing into scratch `arg9`: it holds what the point before left. -/
def sout0_B_1 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : ¬cond0_0 i)
    (x0 : Vec F S4x56 .i32) (x1 : Vec F S15x56 .bf16) (x2 : Vec F S256x7168 .bf16) (x3 : Vec F S896x18432 .i8) (x4 : Vec F S1x18432 .f32) (xs0 : Vec F S56x8x128 .i32) (xs1 : Vec F S16x128 .f32) : Vec F S16x128 .f32 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x18432 .bf16 × Vec F S1x56x256 .i8 × Vec F S56x8x128 .i32 × Vec F S16x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 40 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 40 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 40 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 8000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 40 := lt_of_lt_of_eq t.isLt (show cfg0.N = 40 from N_0)
  by_cases h0 : t.val % 40 = 0
  · by_cases hz : t.val = 0
    · rw [PhiS_castSucc m c t, PhiS_zero m c _ _ hz, PhiA0_eq]
      rw [outsAt0_A m c t h0]
      unfold out0_A_5 out0_A_6 sout0_A_0 sout0_A_1; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, ⟨%e5, H5⟩, ⟨%e6, H6⟩, ⟨%es0, HS0⟩, ⟨%es1, HS1⟩, HS2, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _)
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _ _ _ _ _ _ _ _ _ _)
    · exfalso; have hN : t.val < 40 := lt_of_lt_of_eq t.isLt (show cfg0.N = 40 from N_0); omega
  · by_cases hz : t.val = 0
    · exfalso; have hN : t.val < 40 := lt_of_lt_of_eq t.isLt (show cfg0.N = 40 from N_0); omega
    · rw [PhiS_castSucc m c t, PhiS_pos m c _ _ hz]
      rw [outsAt0_B m c t h0]
      unfold out0_B_5 out0_B_6 sout0_B_0 sout0_B_1; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, ⟨%e5, H5⟩, ⟨%e6, H6⟩, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _)
      unfold owns; iexists _; isplitr
      swap; · iexact H6
      ipureintro; exact View.read_writes_of_cover _ _ _ _ _ (cover0_B_6 c _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 40 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.KIRunA.lean ====
/- The whole-body run of the kernel body in case A of its frame (case A: the first grid point, which also fills the two
   tables; case B: every later point). A copy of the generated module with one step added: the second loop reads the
   scratch buffer that the first loop fills, and `hw` says that what it reads does not depend on what the buffer held
   before, because the pieces of the sixteen trips cover it. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 2280000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : cond0_0 i)
    (x0 : Vec F S4x56 .i32) (x1 : Vec F S15x56 .bf16) (x2 : Vec F S256x7168 .bf16) (x3 : Vec F S896x18432 .i8) (x4 : Vec F S1x18432 .f32) :
    Σ' (L5 : List (View.Piece (Elt F) S256x18432 .bf16)), Σ' (L6 : List (View.Piece (Elt F) S1x56x256 .i8)), Σ' (LS0 : List (View.Piece (Elt F) S56x8x128 .i32)), { LS1 : List (View.Piece (Elt F) S16x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ d, owns (c : Thread nD τ) arg10 fullShare d) ∗ (∃ d, owns (c : Thread nD τ) arg11 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__body_eq_skeleton]; unfold cc0__body_skel
    simp only [k0_part121_eq_skeleton, k0_part41_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part122_eq_skeleton, k0_part123_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4
    have hrd0 : ∀ (𝒱 : Variants) (c : Dev nD) (bd : Option 𝒱.V) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (X_arg3 : BufTy.Contents (Elt F) arg3.view.ty) (X_arg8 : BufTy.Contents (Elt F) arg8.view.ty) (X_arg9 : BufTy.Contents (Elt F) arg9.view.ty) (hrdF : BufTy.Contents (Elt F) arg11.view.ty) (hrdB : LoadRect S128x128), arg11.view.readAt (Elt F) hrdB (arg11.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 X_arg3 X_arg8 X_arg9 (Scf.trips k0_t1_loop.lb k0_t1_loop.ub k0_t1_loop.st)).2) = arg11.view.readCov (pb_k0_t1 (F := F) 𝒱 c bd i arg1 harg1 arg2 harg2 arg3 harg3 arg4 harg4 arg5 harg5 arg6 harg6 arg7 harg7 arg8 harg8 arg9 harg9 arg10 harg10 arg11 harg11 X_arg3 X_arg8 X_arg9 (Scf.trips k0_t1_loop.lb k0_t1_loop.ub k0_t1_loop.st)).2 hrdB := fun 𝒱 c bd i arg1 harg1 arg2 harg2 arg3 harg3 arg4 harg4 arg5 harg5 arg6 harg6 arg7 harg7 arg8 harg8 arg9 harg9 arg10 harg10 arg11 harg11 X_arg3 X_arg8 X_arg9 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 X_arg3 X_arg8 X_arg9 (Scf.trips k0_t1_loop.lb k0_t1_loop.ub k0_t1_loop.st)).2 S8x128.size (by sl_kernel_rfl) (hrdB.idx hrdJ))
    have hw : ∀ (g : BufTy.Contents (Elt F) arg10.view.ty) (L : List (View.Piece (Elt F) S256x1024 .bf16)), View.Piece.tiledL L S16x128.size = true → arg10.view.writes (Elt F) g L = arg10.view.writes (Elt F) arg10.view.junk L :=
      fun g L hL => (harg10.eq_unread rfl).trans ((congrArg _ (View.read_writes_of_cover _ _ _ _ _ (View.cover_of_tiledL L S16x128.size hL))).trans (harg10.eq_unread rfl).symm)
    sl_exec (disch := first | sl_exact hc0)
    sl_step
    rw [hw fs2 _ (by sl_kernel_rfl)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]; · iexists _; iexact HS0
    isplitl [HS1]; · iexists _; iexact HS1
    isplitl [HS2]
    · iexists _, _; isplitr; swap; · iexact HS2
      ipureintro; rfl
    iexists _, _; isplitr; swap; · iexact HS3
    ipureintro; rfl

end Cert.KernelIdeal.Gen

end
-- ==== Proof.KIRunB.lean ====
/- The whole-body run of the kernel body in case B of its frame (case A: the first grid point, which also fills the two
   tables; case B: every later point). A copy of the generated module with one step added: the second loop reads the
   scratch buffer that the first loop fills, and `hw` says that what it reads does not depend on what the buffer held
   before, because the pieces of the sixteen trips cover it. -/
module

public import proofs.«01_k».proof.Proof.KIRunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option backward.proofsInPublic true in
set_option maxHeartbeats 1000000 in
/-- What the body's stores leave in each output's staging memref, as pieces (last first) IN CASE B (`scf.if` 0 not taken: points 1, 2, … 39: 39 of 40), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : ¬cond0_0 i)
    (x0 : Vec F S4x56 .i32) (x1 : Vec F S15x56 .bf16) (x2 : Vec F S256x7168 .bf16) (x3 : Vec F S896x18432 .i8) (x4 : Vec F S1x18432 .f32) (xs0 : Vec F S56x8x128 .i32) (xs1 : Vec F S16x128 .f32) :
    Σ' (L5 : List (View.Piece (Elt F) S256x18432 .bf16)), Σ' (L6 : List (View.Piece (Elt F) S1x56x256 .i8)), Σ' (LS0 : List (View.Piece (Elt F) S56x8x128 .i32)), { LS1 : List (View.Piece (Elt F) S16x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ owns (c : Thread nD τ) arg8 fullShare xs0 ∗ owns (c : Thread nD τ) arg9 fullShare xs1 ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ owns (c : Thread nD τ) arg8 fullShare xs0 ∗ owns (c : Thread nD τ) arg9 fullShare xs1 ∗ (∃ d, owns (c : Thread nD τ) arg10 fullShare d) ∗ (∃ d, owns (c : Thread nD τ) arg11 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K } := by
  refine ⟨?_, ?_, [], [], fun E K => ?run⟩
  case run =>
    simp only [cc0__body_eq_skeleton]; unfold cc0__body_skel
    simp only [k0_part121_eq_skeleton, k0_part122_eq_skeleton, k0_part123_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg8.eq_unread hfs0; obtain rfl := harg9.eq_unread hfs1
    have hrd0 : ∀ (𝒱 : Variants) (c : Dev nD) (bd : Option 𝒱.V) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (X_arg3 : BufTy.Contents (Elt F) arg3.view.ty) (X_arg8 : BufTy.Contents (Elt F) arg8.view.ty) (X_arg9 : BufTy.Contents (Elt F) arg9.view.ty) (hrdF : BufTy.Contents (Elt F) arg11.view.ty) (hrdB : LoadRect S128x128), arg11.view.readAt (Elt F) hrdB (arg11.view.writes (Elt F) hrdF (pb_k0_t1 (F := F) 𝒱 c bd i arg1 harg1 arg2 harg2 arg3 harg3 arg4 harg4 arg5 harg5 arg6 harg6 arg7 harg7 arg8 harg8 arg9 harg9 arg10 harg10 arg11 harg11 X_arg3 X_arg8 X_arg9 (Scf.trips k0_t1_loop.lb k0_t1_loop.ub k0_t1_loop.st)).2) = arg11.view.readCov (pb_k0_t1 (F := F) 𝒱 c bd i arg1 harg1 arg2 harg2 arg3 harg3 arg4 harg4 arg5 harg5 arg6 harg6 arg7 harg7 arg8 harg8 arg9 harg9 arg10 harg10 arg11 harg11 X_arg3 X_arg8 X_arg9 (Scf.trips k0_t1_loop.lb k0_t1_loop.ub k0_t1_loop.st)).2 hrdB := fun 𝒱 c bd i arg1 harg1 arg2 harg2 arg3 harg3 arg4 harg4 arg5 harg5 arg6 harg6 arg7 harg7 arg8 harg8 arg9 harg9 arg10 harg10 arg11 harg11 X_arg3 X_arg8 X_arg9 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 arg10 harg10 arg11 harg11 X_arg3 X_arg8 X_arg9 (Scf.trips k0_t1_loop.lb k0_t1_loop.ub k0_t1_loop.st)).2 S8x128.size (by sl_kernel_rfl) (hrdB.idx hrdJ))
    have hw : ∀ (g : BufTy.Contents (Elt F) arg10.view.ty) (L : List (View.Piece (Elt F) S256x1024 .bf16)), View.Piece.tiledL L S16x128.size = true → arg10.view.writes (Elt F) g L = arg10.view.writes (Elt F) arg10.view.junk L :=
      fun g L hL => (harg10.eq_unread rfl).trans ((congrArg _ (View.read_writes_of_cover _ _ _ _ _ (View.cover_of_tiledL L S16x128.size hL))).trans (harg10.eq_unread rfl).symm)
    sl_exec (disch := first | sl_exact hc0)
    sl_step
    rw [hw fs2 _ (by sl_kernel_rfl)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [HS0]
    · iexists _; isplitr; · ipureintro; exact harg8.read_unread _
      iexact HS0
    isplitl [HS1]
    · iexists _; isplitr; · ipureintro; exact harg9.read_unread _
      iexact HS1
    isplitl [HS2]
    · iexists _, _; isplitr; swap; · iexact HS2
      ipureintro; rfl
    iexists _, _; isplitr; swap; · iexact HS3
    ipureintro; rfl

end Cert.KernelIdeal.Gen

end
-- ==== Proof.KIFrame.lean ====
/- The launch of the kernel at any float semantics: what each grid point leaves, the run of the whole program, and its frame.
   A copy of the generated module over the two runs of `KIRunA` and `KIRunB`. -/
module

public import proofs.«01_k».proof.Proof.KIRunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 5 tile its block (72 stores of `S256x256`, checked by the kernel's evaluation: Lib/Ring.lean `Piece.tiledL`, linear in the pieces, through a loop's `@[irreducible]` trip theorem too), so they cover it. -/
theorem cover0_A_5 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : cond0_0 i)
    (x0 : Vec F S4x56 .i32) (x1 : Vec F S15x56 .bf16) (x2 : Vec F S256x7168 .bf16) (x3 : Vec F S896x18432 .i8) (x4 : Vec F S1x18432 .f32) (y : S256x18432.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 x0 x1 x2 x3 x4).1 S256x256.size (by sl_kernel_rfl) y

/-- What case A leaves in output 5's staging buffer: its pieces read back over junk. -/
def out0_A_5 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : cond0_0 i)
    (x0 : Vec F S4x56 .i32) (x1 : Vec F S15x56 .bf16) (x2 : Vec F S256x7168 .bf16) (x3 : Vec F S896x18432 .i8) (x4 : Vec F S1x18432 .f32) : Vec F S256x18432 .bf16 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 arg11 harg11 hc0 x0 x1 x2 x3 x4).1)

/-- Case A's pieces for output 6 tile its block (2 stores of `S1x56x128`, checked by the kernel's evaluation: Lib/Ring.lean `Piece.tiledL`, linear in the pieces, through a loop's `@[irreducible]` trip theorem too), so they cover it. -/
theorem cover0_A_6 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : cond0_0 i)
    (x0 : Vec F S4x56 .i32) (x1 : Vec F S15x56 .bf16) (x2 : Vec F S256x7168 .bf16) (x3 : Vec F S896x18432 .i8) (x4 : Vec F S1x18432 .f32) (y : S1x56x256.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 x0 x1 x2 x3 x4).2.1 S1x56x128.size (by sl_kernel_rfl) y

/-- What case A leaves in output 6's staging buffer: its pieces read back over junk. -/
def out0_A_6 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : cond0_0 i)
    (x0 : Vec F S4x56 .i32) (x1 : Vec F S15x56 .bf16) (x2 : Vec F S256x7168 .bf16) (x3 : Vec F S896x18432 .i8) (x4 : Vec F S1x18432 .f32) : Vec F S1x56x256 .i8 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 hc0 x0 x1 x2 x3 x4).2.1)

/-- Case A's pieces for scratch `arg8`, which the kernel carries between points, cover it: 56 pieces of `S1x8x128` tiling it (Lib/Ring.lean `Piece.tiledL`). -/
theorem scover0_A_0 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : cond0_0 i)
    (x0 : Vec F S4x56 .i32) (x1 : Vec F S15x56 .bf16) (x2 : Vec F S256x7168 .bf16) (x3 : Vec F S896x18432 .i8) (x4 : Vec F S1x18432 .f32) (y : S56x8x128.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 hc0 x0 x1 x2 x3 x4).2.2.1 S1x8x128.size (by sl_kernel_rfl) y

/-- What case A leaves in scratch `arg8`: its pieces read back over junk. -/
def sout0_A_0 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : cond0_0 i)
    (x0 : Vec F S4x56 .i32) (x1 : Vec F S15x56 .bf16) (x2 : Vec F S256x7168 .bf16) (x3 : Vec F S896x18432 .i8) (x4 : Vec F S1x18432 .f32) : Vec F S56x8x128 .i32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 hc0 x0 x1 x2 x3 x4).2.2.1)

/-- Case A's pieces for scratch `arg9`, which the kernel carries between points, cover it: one of them a store of the WHOLE buffer (Lib/Ring.lean `sl_whole_mem`). -/
theorem scover0_A_1 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : cond0_0 i)
    (x0 : Vec F S4x56 .i32) (x1 : Vec F S15x56 .bf16) (x2 : Vec F S256x7168 .bf16) (x3 : Vec F S896x18432 .i8) (x4 : Vec F S1x18432 .f32) (y : S16x128.Idx) :
    ∃ pc ∈ (kernelRun0_A c i arg1 harg1 arg2 harg2 arg3 harg3 arg4 harg4 arg5 harg5 arg6 harg6 arg7 harg7 arg8 harg8 arg9 harg9 arg10 harg10 arg11 harg11 hc0 x0 x1 x2 x3 x4).2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 hc0 x0 x1 x2 x3 x4).2.2.2.1 (by sl_whole_mem) y

/-- What case A leaves in scratch `arg9`: its pieces read back over junk. -/
def sout0_A_1 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : cond0_0 i)
    (x0 : Vec F S4x56 .i32) (x1 : Vec F S15x56 .bf16) (x2 : Vec F S256x7168 .bf16) (x3 : Vec F S896x18432 .i8) (x4 : Vec F S1x18432 .f32) : Vec F S16x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 hc0 x0 x1 x2 x3 x4).2.2.2.1)

/-- Case B's pieces for output 5 tile its block (72 stores of `S256x256`, checked by the kernel's evaluation: Lib/Ring.lean `Piece.tiledL`, linear in the pieces, through a loop's `@[irreducible]` trip theorem too), so they cover it. -/
theorem cover0_B_5 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : ¬cond0_0 i)
    (x0 : Vec F S4x56 .i32) (x1 : Vec F S15x56 .bf16) (x2 : Vec F S256x7168 .bf16) (x3 : Vec F S896x18432 .i8) (x4 : Vec F S1x18432 .f32) (xs0 : Vec F S56x8x128 .i32) (xs1 : Vec F S16x128 .f32) (y : S256x18432.Idx) :
    ∃ pc ∈ (kernelRun0_B c i arg1 harg1 arg2 harg2 arg3 harg3 arg4 harg4 arg5 harg5 arg6 harg6 arg7 harg7 arg8 harg8 arg9 harg9 arg10 harg10 arg11 harg11 hc0 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 x0 x1 x2 x3 x4 xs0 xs1).1 S256x256.size (by sl_kernel_rfl) y

/-- What case B leaves in output 5's staging buffer: its pieces read back over junk. -/
def out0_B_5 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : ¬cond0_0 i)
    (x0 : Vec F S4x56 .i32) (x1 : Vec F S15x56 .bf16) (x2 : Vec F S256x7168 .bf16) (x3 : Vec F S896x18432 .i8) (x4 : Vec F S1x18432 .f32) (xs0 : Vec F S56x8x128 .i32) (xs1 : Vec F S16x128 .f32) : Vec F S256x18432 .bf16 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 arg11 harg11 hc0 x0 x1 x2 x3 x4 xs0 xs1).1)

/-- Case B's pieces for output 6 tile its block (2 stores of `S1x56x128`, checked by the kernel's evaluation: Lib/Ring.lean `Piece.tiledL`, linear in the pieces, through a loop's `@[irreducible]` trip theorem too), so they cover it. -/
theorem cover0_B_6 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : ¬cond0_0 i)
    (x0 : Vec F S4x56 .i32) (x1 : Vec F S15x56 .bf16) (x2 : Vec F S256x7168 .bf16) (x3 : Vec F S896x18432 .i8) (x4 : Vec F S1x18432 .f32) (xs0 : Vec F S56x8x128 .i32) (xs1 : Vec F S16x128 .f32) (y : S1x56x256.Idx) :
    ∃ pc ∈ (kernelRun0_B c i arg1 harg1 arg2 harg2 arg3 harg3 arg4 harg4 arg5 harg5 arg6 harg6 arg7 harg7 arg8 harg8 arg9 harg9 arg10 harg10 arg11 harg11 hc0 x0 x1 x2 x3 x4 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 hc0 x0 x1 x2 x3 x4 xs0 xs1).2.1 S1x56x128.size (by sl_kernel_rfl) y

/-- What case B leaves in output 6's staging buffer: its pieces read back over junk. -/
def out0_B_6 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : ¬cond0_0 i)
    (x0 : Vec F S4x56 .i32) (x1 : Vec F S15x56 .bf16) (x2 : Vec F S256x7168 .bf16) (x3 : Vec F S896x18432 .i8) (x4 : Vec F S1x18432 .f32) (xs0 : Vec F S56x8x128 .i32) (xs1 : Vec F S16x128 .f32) : Vec F S1x56x256 .i8 :=
  VO0_6.read (Elt F) (VO0_6.writes (Elt F) VO0_6.junk (kernelRun0_B c i arg1 harg1 arg2 harg2 arg3 harg3 arg4 harg4 arg5 harg5 arg6 harg6 arg7 harg7 arg8 harg8 arg9 harg9 arg10 harg10 arg11 harg11 hc0 x0 x1 x2 x3 x4 xs0 xs1).2.1)

/-- Case B stores nothing into scratch `arg8`: it holds what the point before left. -/
def sout0_B_0 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : ¬cond0_0 i)
    (x0 : Vec F S4x56 .i32) (x1 : Vec F S15x56 .bf16) (x2 : Vec F S256x7168 .bf16) (x3 : Vec F S896x18432 .i8) (x4 : Vec F S1x18432 .f32) (xs0 : Vec F S56x8x128 .i32) (xs1 : Vec F S16x128 .f32) : Vec F S56x8x128 .i32 := xs0

/-- Case B stores nothing into scratch `arg9`: it holds what the point before left. -/
def sout0_B_1 (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole) (hc0 : ¬cond0_0 i)
    (x0 : Vec F S4x56 .i32) (x1 : Vec F S15x56 .bf16) (x2 : Vec F S256x7168 .bf16) (x3 : Vec F S896x18432 .i8) (x4 : Vec F S1x18432 .f32) (xs0 : Vec F S56x8x128 .i32) (xs1 : Vec F S16x128 .f32) : Vec F S16x128 .f32 := xs1

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x18432 .bf16 × Vec F S1x56x256 .i8 × Vec F S56x8x128 .i32 × Vec F S16x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 40 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 40 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 40 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 8000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 40 := lt_of_lt_of_eq t.isLt (show cfg0.N = 40 from N_0)
  by_cases h0 : t.val % 40 = 0
  · by_cases hz : t.val = 0
    · rw [PhiS_castSucc m c t, PhiS_zero m c _ _ hz, PhiA0_eq]
      rw [outsAt0_A m c t h0]
      unfold out0_A_5 out0_A_6 sout0_A_0 sout0_A_1; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t)).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, ⟨%e5, H5⟩, ⟨%e6, H6⟩, ⟨%es0, HS0⟩, ⟨%es1, HS1⟩, HS2, HS3⟩
      isplitl [HS0 HS1 HS2 HS3 Hg]
      · isplitl [HS0 HS1 HS2 HS3]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _)
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _ _ _ _ _ _ _ _ _ _)
    · exfalso; have hN : t.val < 40 := lt_of_lt_of_eq t.isLt (show cfg0.N = 40 from N_0); omega
  · by_cases hz : t.val = 0
    · exfalso; have hN : t.val < 40 := lt_of_lt_of_eq t.isLt (show cfg0.N = 40 from N_0); omega
    · rw [PhiS_castSucc m c t, PhiS_pos m c _ _ hz]
      rw [outsAt0_B m c t h0]
      unfold out0_B_5 out0_B_6 sout0_B_0 sout0_B_1; (try dsimp only)
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, ⟨%e5, H5⟩, ⟨%e6, H6⟩, HS0, HS1, HS2, HS3⟩
      isplitl [HS0 HS1 HS2 HS3 Hg]
      · isplitl [HS0 HS1 HS2 HS3]
        · isplitl [HS0]
          · iexact HS0
          isplitl [HS1]
          · iexact HS1
          isplitl [HS2]
          · iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _ _)
      unfold owns; iexists _; isplitr
      swap; · iexact H6
      ipureintro; exact View.read_writes_of_cover _ _ _ _ _ (cover0_B_6 c _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 40 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.Encode.lean ====
/-
The words the kernel's first loop computes, written as short definitions: the gather of one codebook's four tested values, the chain over the codebooks, the walk down the tree of thresholds, and the one-hot rows made of the leaves. Every statement that links a definition to the kernel's own terms holds by unfolding.
-/
module

public import proofs.«01_k».proof.Proof.KIFrame

@[expose] public section

set_option maxRecDepth 16384

noncomputable section

namespace Cert.KernelIdeal.Gen

open Idealize.ShloMosaic Idealize.ShloMosaic.TcCoe Idealize.ShloMosaic.Tactic
open Facts

variable {F : FTy → Type} [FloatOps F]

/-- The lane number. -/
def lane : IVec S8x128 32 := iota .tc S8x128 32 [1] iota_S8x128_d1_w32

/-- The lane number modulo `n`. -/
def laneMod (n : BitVec 32) : IVec S8x128 32 :=
  let w : BitVec 32 := Scalar.select (Scalar.cmpi .eq n 0#32) 1#32 n
  let r : IVec S8x128 32 := remsi lane (broadcast S8x128 w)
  select (andi (xori (cmpi .slt r (broadcast S8x128 0#32))
      (broadcastTo S8x128 (broadcast S8x128 (Scalar.cmpi .slt w 0#32) : IVec S8x128 1) broadcasts_S8x128_S8x128))
    (cmpi .ne r (broadcast S8x128 0#32))) (addi r (broadcast S8x128 w)) r

/-- The lanes that hold codebook `j` of a group of thirty-two. -/
def hit (j : BitVec 32) : IVec S8x128 1 := cmpi .eq (laneMod 32#32) (broadcast S8x128 j)

/-- A lane index, a negative one counted from the end. -/
def wrapIdx (v : IVec S8x128 32) : IVec S8x128 32 :=
  shapeCast S8x128 (shapeCast S8x128x1 (select (cmpi .slt v (broadcast S8x128 0#32)) (addi v (broadcast S8x128 128#32)) v)
    shapeCasts_S8x128_S8x128x1) shapeCasts_S8x128x1_S8x128

/-- The values of a slab's even or odd rows at the places a table names. -/
def pick (p : Fin 2) (x : Vec F S16x128 .bf16) (t : Vec F S1x8x128 .i32) : FVec F S8x128 .bf16 :=
  truncf .bf16 (dynamicGather 1 (extf .f32 (rowsOfParity p S8x128
    (shapeCast S16x128 x shapeCasts_S16x128_S16x128 : FVec F S16x128 .bf16) bitcasts_S16x128_w16_S8x128_w32))
    (wrapIdx (shapeCast S8x128 t shapeCasts_S1x8x128_S8x128)))

/-- The picked values of the group's codebooks, each kept in its own lanes. -/
def chain (p : Fin 2) (x : ℕ → Vec F S16x128 .bf16) (t : ℕ → Vec F S1x8x128 .i32) (g : ℕ) : ℕ → FVec F S8x128 .bf16
  | 0 => pick p (x g) (t g)
  | n + 1 => select (hit (BitVec.ofNat 32 (n + 1))) (pick p (x (g + (n + 1))) (t (g + (n + 1)))) (chain p x t g n)

theorem slabOff_inb (k : Fin k0_t1_loop.trips) (m : ℕ) (d : Fin 2) :
    (![k0_off1 k 0, 128 * (m % 56)] : Fin 2 → ℕ) d + S16x128.size d ≤ S256x7168.size d := by
  have h := k0_off1_inb k 0
  have := Nat.mod_lt m (show 56 > 0 by decide)
  fin_cases d
  · exact h
  · show 128 * (m % 56) + 128 ≤ 7168; omega

/-- Sixteen rows of the input in codebook `m`'s own 128 columns. -/
def slab (arg3 : Memref sig .tc .vmem S256x7168 .bf16) (X_arg3 : BufTy.Contents (Elt F) arg3.view.ty) (k : Fin k0_t1_loop.trips) (m : ℕ) : Vec F S16x128 .bf16 :=
  View.readAt (Elt F) arg3.view (Rect.unit (s := S256x7168) ![k0_off1 k 0, 128 * (m % 56)] S16x128.size (slabOff_inb k m)).toLoadRect X_arg3

theorem tabOff_inb (m : ℕ) (d : Fin 3) :
    (![m % 56, 0, 0] : Fin 3 → ℕ) d + S1x8x128.size d ≤ S56x8x128.size d := by
  have := Nat.mod_lt m (show 56 > 0 by decide)
  fin_cases d
  · show m % 56 + 1 ≤ 56; omega
  · show 0 + 8 ≤ 8; omega
  · show 0 + 128 ≤ 128; omega

/-- Codebook `m`'s table of places. -/
def tab (arg8 : Memref sig .tc .vmem S56x8x128 .i32) (X_arg8 : BufTy.Contents (Elt F) arg8.view.ty) (m : ℕ) : Vec F S1x8x128 .i32 :=
  View.readAt (Elt F) arg8.view (Rect.unit (s := S56x8x128) ![m % 56, 0, 0] S1x8x128.size (tabOff_inb m)).toLoadRect X_arg8

/-- The lanes turned by `s`. -/
def turn (s : BitVec 32) (v : FVec F S8x128 .bf16) : FVec F S8x128 .bf16 := dynamicRotate 1 s none v rotates_S8x128_d1

/-- The first thirty-two lanes. -/
def first32 : IVec S8x128 1 := cmpi .slt lane (broadcast S8x128 32#32)

/-- The value the tree's first level tests, codebook by lane. -/
def word0 (a b : FVec F S8x128 .bf16) : FVec F S8x128 .bf16 := select first32 a (turn 32#32 b)
/-- The second level's value. -/
def word1 (a b : FVec F S8x128 .bf16) : FVec F S8x128 .bf16 := select first32 (turn 96#32 a) b
/-- The third level's value. -/
def word2 (a b : FVec F S8x128 .bf16) : FVec F S8x128 .bf16 := select first32 (turn 64#32 a) (turn 96#32 b)
/-- The fourth level's value. -/
def word3 (a b : FVec F S8x128 .bf16) : FVec F S8x128 .bf16 := select first32 (turn 32#32 a) (turn 64#32 b)

theorem nodeOff_inb (m : ℕ) (d : Fin 2) : (![m % 16, 0] : Fin 2 → ℕ) d + S1x128.size d ≤ S16x128.size d := by
  have := Nat.mod_lt m (show 16 > 0 by decide)
  fin_cases d
  · show m % 16 + 1 ≤ 16; omega
  · show 0 + 128 ≤ 128; omega

/-- One row of the thresholds, codebook by lane. -/
def node (arg9 : Memref sig .tc .vmem S16x128 .f32) (X_arg9 : BufTy.Contents (Elt F) arg9.view.ty) (m : ℕ) : Vec F S1x128 .f32 :=
  View.readAt (Elt F) arg9.view (Rect.unit (s := S16x128) ![m % 16, 0] S1x128.size (nodeOff_inb m)).toLoadRect X_arg9

/-- A row of thresholds under every row of the slab. -/
def spread (n : Vec F S1x128 .f32) : FVec F S8x128 .f32 :=
  broadcastTo S8x128 (shapeCast S1x128 n shapeCasts_S1x128_S1x128 : FVec F S1x128 .f32) broadcasts_S1x128_S8x128

/-- The tree's first bit. -/
def bit0 (w0 : FVec F S8x128 .bf16) (n : ℕ → Vec F S1x128 .f32) : IVec S8x128 1 :=
  cmpf .ogt (extf .f32 w0) (broadcastTo S8x128 (n 0) broadcasts_S1x128_S8x128 : FVec F S8x128 .f32)
/-- The second bit; the threshold depends on the first. -/
def bit1 (w1 : FVec F S8x128 .bf16) (n : ℕ → Vec F S1x128 .f32) (b0 : IVec S8x128 1) : IVec S8x128 1 :=
  cmpf .ogt (extf .f32 w1) (select b0 (spread (n 2)) (spread (n 1)))
/-- The third bit. -/
def bit2 (w2 : FVec F S8x128 .bf16) (n : ℕ → Vec F S1x128 .f32) (b0 b1 : IVec S8x128 1) : IVec S8x128 1 :=
  cmpf .ogt (extf .f32 w2) (select b0 (select b1 (spread (n 6)) (spread (n 5))) (select b1 (spread (n 4)) (spread (n 3))))
/-- The fourth bit. -/
def bit3 (w3 : FVec F S8x128 .bf16) (n : ℕ → Vec F S1x128 .f32) (b0 b1 b2 : IVec S8x128 1) : IVec S8x128 1 :=
  cmpf .ogt (extf .f32 w3) (select b0
    (select b1 (select b2 (spread (n 14)) (spread (n 13))) (select b2 (spread (n 12)) (spread (n 11))))
    (select b1 (select b2 (spread (n 10)) (spread (n 9))) (select b2 (spread (n 8)) (spread (n 7)))))
/-- `v` more where the bit is set. -/
def addBit (b : IVec S8x128 1) (v : BitVec 32) (x : IVec S8x128 32) : IVec S8x128 32 := select b (addi x (broadcast S8x128 v)) x

/-- The leaf the four values reach. -/
def walk (w0 w1 w2 w3 : FVec F S8x128 .bf16) (n : ℕ → Vec F S1x128 .f32) : IVec S8x128 32 :=
  addBit (bit3 w3 n (bit0 w0 n) (bit1 w1 n (bit0 w0 n)) (bit2 w2 n (bit0 w0 n) (bit1 w1 n (bit0 w0 n)))) 1#32
    (addBit (bit2 w2 n (bit0 w0 n) (bit1 w1 n (bit0 w0 n))) 2#32
      (addBit (bit1 w1 n (bit0 w0 n)) 4#32 (addBit (bit0 w0 n) 8#32 (broadcast S8x128 0#32))))

/-- The leaves of a slab's even or odd rows. -/
def halfLeaf (p : Fin 2) (x : ℕ → Vec F S16x128 .bf16) (t : ℕ → Vec F S1x8x128 .i32) (n : ℕ → Vec F S1x128 .f32) : IVec S8x128 32 :=
  walk (word0 (chain p x t 0 31) (chain p x t 32 23)) (word1 (chain p x t 0 31) (chain p x t 32 23))
    (word2 (chain p x t 0 31) (chain p x t 32 23)) (word3 (chain p x t 0 31) (chain p x t 32 23)) n

/-- The leaves of two rows in one word. -/
def leaf (x : ℕ → Vec F S16x128 .bf16) (t : ℕ → Vec F S1x8x128 .i32) (n : ℕ → Vec F S1x128 .f32) : IVec S8x128 32 :=
  ori (halfLeaf 0 x t n) (shli (halfLeaf 1 x t n) (broadcast S8x128 16#32))

/-- The lane number divided by sixteen. -/
def laneDiv16 : IVec S8x128 32 :=
  select (andi (cmpi .ne (subi (extui 32 (cmpi .sgt lane (broadcast S8x128 0#32)) natLt_1_32) (extui 32 (cmpi .slt lane (broadcast S8x128 0#32)) natLt_1_32))
      (broadcast S8x128 (Scalar.subi (Scalar.extui (Scalar.cmpi .sgt 16#32 0#32)) (Scalar.extui (Scalar.cmpi .slt 16#32 0#32)))))
    (cmpi .ne (remsi lane (broadcast S8x128 16#32)) (broadcast S8x128 0#32)))
    (subi (divsi lane (broadcast S8x128 16#32)) (broadcast S8x128 1#32)) (divsi lane (broadcast S8x128 16#32))

/-- How a column's leaf number differs from the row's leaf. -/
def diff (lf : IVec S8x128 32) (tile : BitVec 32) : IVec S8x128 32 :=
  xori (dynamicGather 1 lf (wrapIdx (addi laneDiv16 (broadcast S8x128 tile))))
    (ori (laneMod 16#32) (shli (laneMod 16#32) (broadcast S8x128 16#32)))

/-- One word of the one-hot rows: `low` and `high` where the leaf of each row is the column's. -/
def onehotWord (lf : IVec S8x128 32) (tile low high : BitVec 32) : IVec S8x128 32 :=
  ori (select (cmpi .eq (andi (diff lf tile) (broadcast S8x128 65535#32)) (broadcast S8x128 0#32)) (broadcast S8x128 low) (broadcast S8x128 0#32))
    (select (cmpi .slt (diff lf tile) (broadcast S8x128 65536#32)) (broadcast S8x128 high) (broadcast S8x128 0#32))

/-- Sixteen one-hot rows. -/
def onehot (lf : IVec S8x128 32) (tile low high : BitVec 32) : FVec F S16x128 .bf16 :=
  shapeCast S16x128 (bitcastToFloat .bf16 (bitcast S16x128 16 (onehotWord lf tile low high) bitcasts_S8x128_w32_S16x128_w16) : FVec F S16x128 .bf16) shapeCasts_S16x128_S16x128
variable (𝒱 : Variants) (c : Dev nD) (bd : Option 𝒱.V) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole)
variable (X_arg3 : BufTy.Contents (Elt F) arg3.view.ty) (X_arg8 : BufTy.Contents (Elt F) arg8.view.ty) (X_arg9 : BufTy.Contents (Elt F) arg9.view.ty) (k : Fin k0_t1_loop.trips)

theorem acc0_lo : trip_k0_t1.sl.r_146 arg3 arg8 X_arg3 X_arg8 k = chain 0 (slab arg3 X_arg3 k) (tab arg8 X_arg8) 0 31 := rfl
theorem acc0_hi : trip_k0_t1.sl.r_147 arg3 arg8 X_arg3 X_arg8 k = chain 1 (slab arg3 X_arg3 k) (tab arg8 X_arg8) 0 31 := rfl
theorem acc1_lo : trip_k0_t1.sl.r_260 arg3 arg8 X_arg3 X_arg8 k = chain 0 (slab arg3 X_arg3 k) (tab arg8 X_arg8) 32 23 := rfl
theorem acc1_hi : trip_k0_t1.sl.r_261 arg3 arg8 X_arg3 X_arg8 k = chain 1 (slab arg3 X_arg3 k) (tab arg8 X_arg8) 32 23 := rfl

theorem leaf_eq : trip_k0_t1.sl.r_297 arg3 arg8 arg9 X_arg3 X_arg8 X_arg9 k = leaf (slab arg3 X_arg3 k) (tab arg8 X_arg8) (node arg9 X_arg9) := rfl

/-- The leaf words of one slab. -/
def slabLeaf : IVec S8x128 32 := leaf (slab arg3 X_arg3 k) (tab arg8 X_arg8) (node arg9 X_arg9)

theorem trip_lhs : (trip_k0_t1 𝒱 c bd i arg1 harg1 arg2 harg2 arg3 harg3 arg4 harg4 arg5 harg5 arg6 harg6 arg7 harg7 arg8 harg8 arg9 harg9 arg10 harg10 arg11 harg11 X_arg3 X_arg8 X_arg9 k).1 =
    [⟨Rect.unit (k0_off65 k) S16x128.size (k0_off65_inb k), onehot (slabLeaf arg3 arg8 arg9 X_arg3 X_arg8 X_arg9 k) 48#32 18044#32 1182531584#32⟩,
     ⟨Rect.unit (k0_off64 k) S16x128.size (k0_off64_inb k), onehot (slabLeaf arg3 arg8 arg9 X_arg3 X_arg8 X_arg9 k) 48#32 16256#32 1065353216#32⟩,
     ⟨Rect.unit (k0_off63 k) S16x128.size (k0_off63_inb k), onehot (slabLeaf arg3 arg8 arg9 X_arg3 X_arg8 X_arg9 k) 40#32 16256#32 1065353216#32⟩,
     ⟨Rect.unit (k0_off62 k) S16x128.size (k0_off62_inb k), onehot (slabLeaf arg3 arg8 arg9 X_arg3 X_arg8 X_arg9 k) 32#32 16256#32 1065353216#32⟩,
     ⟨Rect.unit (k0_off61 k) S16x128.size (k0_off61_inb k), onehot (slabLeaf arg3 arg8 arg9 X_arg3 X_arg8 X_arg9 k) 24#32 16256#32 1065353216#32⟩,
     ⟨Rect.unit (k0_off60 k) S16x128.size (k0_off60_inb k), onehot (slabLeaf arg3 arg8 arg9 X_arg3 X_arg8 X_arg9 k) 16#32 16256#32 1065353216#32⟩,
     ⟨Rect.unit (k0_off59 k) S16x128.size (k0_off59_inb k), onehot (slabLeaf arg3 arg8 arg9 X_arg3 X_arg8 X_arg9 k) 8#32 16256#32 1065353216#32⟩,
     ⟨Rect.unit (k0_off58 k) S16x128.size (k0_off58_inb k), onehot (slabLeaf arg3 arg8 arg9 X_arg3 X_arg8 X_arg9 k) 0#32 16256#32 1065353216#32⟩] := by
  unfold trip_k0_t1; rfl

theorem trip_leaf : (trip_k0_t1 𝒱 c bd i arg1 harg1 arg2 harg2 arg3 harg3 arg4 harg4 arg5 harg5 arg6 harg6 arg7 harg7 arg8 harg8 arg9 harg9 arg10 harg10 arg11 harg11 X_arg3 X_arg8 X_arg9 k).2.1 =
    [⟨Rect.unit (k0_off57 k) S8x128.size (k0_off57_inb k), shapeCast S8x128 (slabLeaf arg3 arg8 arg9 X_arg3 X_arg8 X_arg9 k) shapeCasts_S8x128_S8x128⟩] := by
  unfold trip_k0_t1; rfl

end Cert.KernelIdeal.Gen
end
-- ==== Proof.Meaning.lean ====
/-
What the definitions of `Encode` are worth at one row and one codebook, over the extended reals: the tested value, the four bits of the tree, the leaf, and the word that packs the leaves of two rows.
-/
module

public import proofs.«01_k».proof.Proof.Encode
public import Idealize.ShloMosaic.Lib.Pointwise.Tactic
public import Idealize.ShloMosaic.Lib.ValueIdx
public import Idealize.ShloMosaic.Lib.Pointwise.Reshape
public import Idealize.ShloMosaic.Lib.KernelVsHost
public import Idealize.ShloMosaic.Lib.BitcastPair
public import Idealize.ShloMosaic.Lib.Pipeline.ValueKit.Tiles

@[expose] public section

set_option maxRecDepth 16384

noncomputable section

namespace Cert.KernelIdeal.Gen

open Idealize.ShloMosaic Idealize.ShloMosaic.TcCoe Idealize.ShloMosaic.Tactic
open Facts

/-! ## Lanes -/

theorem lane_apply (r : Fin 8) (l : Fin 128) : lane (ix2 r l) = BitVec.ofNat 32 l.val := by
  show BitVec.ofNat 32 (0 * 128 + l.val) = _
  rw [Nat.zero_mul, Nat.zero_add]

theorem laneMod32_apply (r : Fin 8) (l : Fin 128) : laneMod 32#32 (ix2 r l) = BitVec.ofNat 32 (l.val % 32) := by
  have h : ∀ l : Fin 128, laneMod 32#32 (ix2 (0 : Fin 8) l) = BitVec.ofNat 32 (l.val % 32) := by decide
  exact h l

theorem laneMod16_apply (r : Fin 8) (l : Fin 128) : laneMod 16#32 (ix2 r l) = BitVec.ofNat 32 (l.val % 16) := by
  have h : ∀ l : Fin 128, laneMod 16#32 (ix2 (0 : Fin 8) l) = BitVec.ofNat 32 (l.val % 16) := by decide
  exact h l

theorem laneDiv16_apply (r : Fin 8) (l : Fin 128) : laneDiv16 (ix2 r l) = BitVec.ofNat 32 (l.val / 16) := by
  have h : ∀ l : Fin 128, laneDiv16 (ix2 (0 : Fin 8) l) = BitVec.ofNat 32 (l.val / 16) := by decide
  exact h l

theorem first32_apply (r : Fin 8) (l : Fin 128) : first32 (ix2 r l) = if l.val < 32 then 1#1 else 0#1 := by
  have h : ∀ l : Fin 128, first32 (ix2 (0 : Fin 8) l) = if l.val < 32 then 1#1 else 0#1 := by decide
  exact h l

theorem hit_apply (j : ℕ) (hj : j < 32) (r : Fin 8) (l : Fin 128) :
    hit (BitVec.ofNat 32 j) (ix2 r l) = if l.val % 32 = j then 1#1 else 0#1 := by
  have h : ∀ (j : Fin 32) (l : Fin 128), hit (BitVec.ofNat 32 j.val) (ix2 (0 : Fin 8) l) = if l.val % 32 = j.val then 1#1 else 0#1 := by
    intro j l
    show Scalar.cmpi .eq (laneMod 32#32 (ix2 (0 : Fin 8) l)) _ = _
    rw [laneMod32_apply]
    generalize hq : l.val % 32 = q
    have hq' : q < 32 := by omega
    have h2 : ∀ a b : Fin 32, Scalar.cmpi .eq (BitVec.ofNat 32 a.val) (BitVec.ofNat 32 b.val) = if a.val = b.val then 1#1 else 0#1 := by decide
    exact h2 ⟨q, hq'⟩ j
  exact h ⟨j, hj⟩ l

theorem turn_apply {F : FTy → Type} [FloatOps F] (s : ℕ) (hs : s < 128) (v : FVec F S8x128 .bf16) (r : Fin 8) (l l' : Fin 128)
    (h : l'.val = (l.val + 128 - s) % 128) : turn (BitVec.ofNat 32 s) v (ix2 r l) = v (ix2 r l') := by
  unfold turn
  refine dynamicRotate_apply (1 : Fin 2) _ v _ (ix2 r l) (ix2 r l') fun b => ?_
  have e : (BitVec.ofNat 32 s).toNat = s := by rw [BitVec.toNat_ofNat]; omega
  rw [e]
  match b with
  | ⟨0, _⟩ => rfl
  | ⟨1, _⟩ => show l'.val = (l.val + 128 - s % 128) % 128; rw [h, Nat.mod_eq_of_lt hs]

theorem wrapIdx_apply (v : IVec S8x128 32) (r : Fin 8) (l : Fin 128) (h : (v (ix2 r l)).toNat < 128) :
    wrapIdx v (ix2 r l) = v (ix2 r l) := by
  unfold wrapIdx
  rw [shapeCast_comp, shapeCast_id]
  show Scalar.select (Scalar.cmpi .slt (v (ix2 r l)) 0#32) _ _ = _
  have e : Scalar.cmpi .slt (v (ix2 r l)) 0#32 = 0#1 := by
    have h1 : ¬ BitVec.slt (v (ix2 r l)) 0#32 := by
      simp only [BitVec.slt, BitVec.toInt_eq_toNat_of_lt (x := v (ix2 r l)) (by omega)]; simp
    simp [Scalar.cmpi, IntOp.cmpi, h1]
  rw [e]; rfl

theorem pick_apply (p : Fin 2) (x : Vec Ideal S16x128 .bf16) (t : Vec Ideal S1x8x128 .i32) (r : Fin 8) (l : Fin 128)
    (h : (t (ix3 0 r l)).toNat < 128) :
    pick p x t (ix2 r l) = x (ix2 ⟨2 * r.val + p.val, by omega⟩ ⟨(t (ix3 0 r l)).toNat, h⟩) := by
  have e : (shapeCast S8x128 t shapeCasts_S1x8x128_S8x128 : IVec S8x128 32) (ix2 r l) = t (ix3 0 r l) := by
    pointwise
  unfold pick
  rw [ValueIdx.truncf_apply]
  unfold dynamicGather
  rw [ValueIdx.extf_apply, shapeCast_id]
  unfold rowsOfParity
  refine congrArg x (funext fun a => Fin.ext ?_)
  match a with
  | ⟨0, _⟩ => rfl
  | ⟨1, _⟩ =>
    show (wrapIdx (shapeCast S8x128 t shapeCasts_S1x8x128_S8x128) (ix2 r l)).toNat % 128 = (t (ix3 0 r l)).toNat
    rw [wrapIdx_apply _ _ _ (by rw [e]; exact h), e]
    exact Nat.mod_eq_of_lt h

theorem chain_apply (p : Fin 2) (x : ℕ → Vec Ideal S16x128 .bf16) (t : ℕ → Vec Ideal S1x8x128 .i32) (g n : ℕ) (hn : n < 32)
    (r : Fin 8) (l : Fin 128) (h : l.val % 32 ≤ n) :
    chain p x t g n (ix2 r l) = pick p (x (g + l.val % 32)) (t (g + l.val % 32)) (ix2 r l) := by
  induction n with
  | zero => rw [show l.val % 32 = 0 by omega]; rfl
  | succ n ih =>
    show Scalar.select (hit _ (ix2 r l)) _ _ = _
    rw [hit_apply _ hn]
    by_cases e : l.val % 32 = n + 1
    · rw [if_pos e, e]; rfl
    · rw [if_neg e]; exact ih (by omega) (by omega)

/-! ## Words at a codebook's own lane -/

theorem lanes_lt (q : ℕ) (hq : q < 4) (m : ℕ) : 32 * q + m % 32 < 128 := by omega

section Words
variable (p : Fin 2) (x : ℕ → Vec Ideal S16x128 .bf16) (t : ℕ → Vec Ideal S1x8x128 .i32) (r : Fin 8) (m : ℕ) (hm : m < 56)

theorem chainA_apply (l : Fin 128) (h : l.val % 32 = m % 32) (h32 : m < 32) : chain p x t 0 31 (ix2 r l) = pick p (x m) (t m) (ix2 r l) := by
  rw [chain_apply p x t 0 31 (by omega) r l (by omega)]
  have e : 0 + l.val % 32 = m := by omega
  rw [e]

include hm in
theorem chainB_apply (l : Fin 128) (h : l.val % 32 = m % 32) (h32 : ¬ m < 32) : chain p x t 32 23 (ix2 r l) = pick p (x m) (t m) (ix2 r l) := by
  rw [chain_apply p x t 32 23 (by omega) r l (by omega)]
  have e : 32 + l.val % 32 = m := by omega
  rw [e]

theorem select_first32 {α : Type} (a b : S8x128.Idx → α) (l : Fin 128) :
    select first32 a b (ix2 r l) = if l.val < 32 then a (ix2 r l) else b (ix2 r l) := by
  show Scalar.select (first32 (ix2 r l)) _ _ = _
  rw [first32_apply]
  split <;> rfl

theorem word0_apply : word0 (chain p x t 0 31) (chain p x t 32 23) (ix2 r ⟨m, by omega⟩) = pick p (x m) (t m) (ix2 r ⟨32 * 0 + m % 32, by omega⟩) := by
  unfold word0
  rw [select_first32]
  split
  case isTrue h =>
    have h : m < 32 := h
    rw [chainA_apply p x t r m ⟨m, by omega⟩ rfl h]
    exact congrArg (fun l => pick p (x m) (t m) (ix2 r l)) (Fin.ext (by show m = 32 * 0 + m % 32; omega))
  case isFalse h =>
    have h : ¬ m < 32 := h
    rw [turn_apply 32 (by omega) _ r _ ⟨32 * 0 + m % 32, by omega⟩ (by show 32 * 0 + m % 32 = (m + 128 - 32) % 128; omega)]
    exact chainB_apply p x t r m hm _ (by show (32 * 0 + m % 32) % 32 = _; omega) h

theorem word1_apply : word1 (chain p x t 0 31) (chain p x t 32 23) (ix2 r ⟨m, by omega⟩) = pick p (x m) (t m) (ix2 r ⟨32 * 1 + m % 32, by omega⟩) := by
  unfold word1
  rw [select_first32]
  split
  case isTrue h =>
    have h : m < 32 := h
    rw [turn_apply 96 (by omega) _ r _ ⟨32 * 1 + m % 32, by omega⟩ (by show 32 * 1 + m % 32 = (m + 128 - 96) % 128; omega)]
    exact chainA_apply p x t r m _ (by show (32 * 1 + m % 32) % 32 = _; omega) h
  case isFalse h =>
    have h : ¬ m < 32 := h
    rw [chainB_apply p x t r m hm ⟨m, by omega⟩ rfl h]
    exact congrArg (fun l => pick p (x m) (t m) (ix2 r l)) (Fin.ext (by show m = 32 * 1 + m % 32; omega))

theorem word2_apply : word2 (chain p x t 0 31) (chain p x t 32 23) (ix2 r ⟨m, by omega⟩) = pick p (x m) (t m) (ix2 r ⟨32 * 2 + m % 32, by omega⟩) := by
  unfold word2
  rw [select_first32]
  split
  case isTrue h =>
    have h : m < 32 := h
    rw [turn_apply 64 (by omega) _ r _ ⟨32 * 2 + m % 32, by omega⟩ (by show 32 * 2 + m % 32 = (m + 128 - 64) % 128; omega)]
    exact chainA_apply p x t r m _ (by show (32 * 2 + m % 32) % 32 = _; omega) h
  case isFalse h =>
    have h : ¬ m < 32 := h
    rw [turn_apply 96 (by omega) _ r _ ⟨32 * 2 + m % 32, by omega⟩ (by show 32 * 2 + m % 32 = (m + 128 - 96) % 128; omega)]
    exact chainB_apply p x t r m hm _ (by show (32 * 2 + m % 32) % 32 = _; omega) h

theorem word3_apply : word3 (chain p x t 0 31) (chain p x t 32 23) (ix2 r ⟨m, by omega⟩) = pick p (x m) (t m) (ix2 r ⟨32 * 3 + m % 32, by omega⟩) := by
  unfold word3
  rw [select_first32]
  split
  case isTrue h =>
    have h : m < 32 := h
    rw [turn_apply 32 (by omega) _ r _ ⟨32 * 3 + m % 32, by omega⟩ (by show 32 * 3 + m % 32 = (m + 128 - 32) % 128; omega)]
    exact chainA_apply p x t r m _ (by show (32 * 3 + m % 32) % 32 = _; omega) h
  case isFalse h =>
    have h : ¬ m < 32 := h
    rw [turn_apply 64 (by omega) _ r _ ⟨32 * 3 + m % 32, by omega⟩ (by show 32 * 3 + m % 32 = (m + 128 - 64) % 128; omega)]
    exact chainB_apply p x t r m hm _ (by show (32 * 3 + m % 32) % 32 = _; omega) h
end Words

/-! ## The tree of one row and codebook -/

/-- Whether a value lies beyond a node's threshold. -/
def beyond (w n : EReal) : BitVec 1 := Scalar.cmpf (F := Ideal) (φ := .f32) .ogt w n

def treeBit1 (w1 : EReal) (n : ℕ → EReal) (b0 : BitVec 1) : BitVec 1 := beyond w1 (Scalar.select b0 (n 2) (n 1))
def treeBit2 (w2 : EReal) (n : ℕ → EReal) (b0 b1 : BitVec 1) : BitVec 1 :=
  beyond w2 (Scalar.select b0 (Scalar.select b1 (n 6) (n 5)) (Scalar.select b1 (n 4) (n 3)))
def treeBit3 (w3 : EReal) (n : ℕ → EReal) (b0 b1 b2 : BitVec 1) : BitVec 1 :=
  beyond w3 (Scalar.select b0
    (Scalar.select b1 (Scalar.select b2 (n 14) (n 13)) (Scalar.select b2 (n 12) (n 11)))
    (Scalar.select b1 (Scalar.select b2 (n 10) (n 9)) (Scalar.select b2 (n 8) (n 7))))

/-- The leaf's number from its four bits, the first the highest. -/
def leafOf (b0 b1 b2 b3 : BitVec 1) : BitVec 32 :=
  let a0 : BitVec 32 := Scalar.select b0 (0#32 + 8#32) 0#32
  let a1 : BitVec 32 := Scalar.select b1 (a0 + 4#32) a0
  let a2 : BitVec 32 := Scalar.select b2 (a1 + 2#32) a1
  Scalar.select b3 (a2 + 1#32) a2

/-- The leaf that four words reach in the tree of fifteen thresholds. -/
def tree (w0 w1 w2 w3 : EReal) (n : ℕ → EReal) : BitVec 32 :=
  leafOf (beyond w0 (n 0)) (treeBit1 w1 n (beyond w0 (n 0)))
    (treeBit2 w2 n (beyond w0 (n 0)) (treeBit1 w1 n (beyond w0 (n 0))))
    (treeBit3 w3 n (beyond w0 (n 0)) (treeBit1 w1 n (beyond w0 (n 0)))
      (treeBit2 w2 n (beyond w0 (n 0)) (treeBit1 w1 n (beyond w0 (n 0)))))

theorem leafOf_lt (b0 b1 b2 b3 : BitVec 1) : (leafOf b0 b1 b2 b3).toNat < 16 := by
  revert b0 b1 b2 b3; decide

theorem tree_lt (w0 w1 w2 w3 : EReal) (n : ℕ → EReal) : (tree w0 w1 w2 w3 n).toNat < 16 := leafOf_lt _ _ _ _

theorem spread_apply (n : Vec Ideal S1x128 .f32) (r : Fin 8) (l : Fin 128) : spread n (ix2 r l) = n (ix2 0 l) := by
  unfold spread
  rw [shapeCast_id]
  exact congrArg n (funext fun a => match a with | ⟨0, _⟩ => rfl | ⟨1, _⟩ => rfl)

theorem spread'_apply (n : Vec Ideal S1x128 .f32) (r : Fin 8) (l : Fin 128) :
    (broadcastTo S8x128 n broadcasts_S1x128_S8x128 : FVec Ideal S8x128 .f32) (ix2 r l) = n (ix2 0 l) :=
  congrArg n (funext fun a => match a with | ⟨0, _⟩ => rfl | ⟨1, _⟩ => rfl)

theorem bit0_apply (w : FVec Ideal S8x128 .bf16) (n : ℕ → Vec Ideal S1x128 .f32) (r : Fin 8) (l : Fin 128) :
    bit0 w n (ix2 r l) = beyond (w (ix2 r l)) (n 0 (ix2 0 l)) := by
  rw [← spread'_apply (n 0) r l]; rfl

theorem bit1_apply (w : FVec Ideal S8x128 .bf16) (n : ℕ → Vec Ideal S1x128 .f32) (b0 : IVec S8x128 1) (r : Fin 8) (l : Fin 128) :
    bit1 w n b0 (ix2 r l) = treeBit1 (w (ix2 r l)) (fun i => n i (ix2 0 l)) (b0 (ix2 r l)) := by
  simp only [treeBit1, ← spread_apply _ r l]; rfl

theorem bit2_apply (w : FVec Ideal S8x128 .bf16) (n : ℕ → Vec Ideal S1x128 .f32) (b0 b1 : IVec S8x128 1) (r : Fin 8) (l : Fin 128) :
    bit2 w n b0 b1 (ix2 r l) = treeBit2 (w (ix2 r l)) (fun i => n i (ix2 0 l)) (b0 (ix2 r l)) (b1 (ix2 r l)) := by
  simp only [treeBit2, ← spread_apply _ r l]; rfl

theorem bit3_apply (w : FVec Ideal S8x128 .bf16) (n : ℕ → Vec Ideal S1x128 .f32) (b0 b1 b2 : IVec S8x128 1) (r : Fin 8) (l : Fin 128) :
    bit3 w n b0 b1 b2 (ix2 r l) = treeBit3 (w (ix2 r l)) (fun i => n i (ix2 0 l)) (b0 (ix2 r l)) (b1 (ix2 r l)) (b2 (ix2 r l)) := by
  simp only [treeBit3, ← spread_apply _ r l]; rfl

theorem walk_apply (w0 w1 w2 w3 : FVec Ideal S8x128 .bf16) (n : ℕ → Vec Ideal S1x128 .f32) (r : Fin 8) (l : Fin 128) :
    walk w0 w1 w2 w3 n (ix2 r l)
      = tree (w0 (ix2 r l)) (w1 (ix2 r l)) (w2 (ix2 r l)) (w3 (ix2 r l)) (fun i => n i (ix2 0 l)) := by
  simp only [tree, ← bit0_apply, ← bit1_apply, ← bit2_apply, ← bit3_apply]; rfl

/-- The leaf of codebook `m` in a row: word `q` is the row's value at the column `col q m`. -/
def codeAt (row : ℕ → EReal) (col : ℕ → ℕ) (n : ℕ → EReal) : BitVec 32 :=
  tree (row (col 0)) (row (col 1)) (row (col 2)) (row (col 3)) n

theorem codeAt_lt (row : ℕ → EReal) (col : ℕ → ℕ) (n : ℕ → EReal) : (codeAt row col n).toNat < 16 := tree_lt _ _ _ _ _

/-- Two leaves packed in a word: the even row's low, the odd row's high. -/
def packLeaf (e o : BitVec 32) : BitVec 32 := e ||| (o <<< (16#32 : BitVec 32))

section Leaf
variable (x : ℕ → Vec Ideal S16x128 .bf16) (t : ℕ → Vec Ideal S1x8x128 .i32) (n : ℕ → Vec Ideal S1x128 .f32)
  (row : ℕ → ℕ → EReal) (col : ℕ → ℕ → ℕ) (thr : ℕ → ℕ → EReal)
  (hx : ∀ (m : ℕ), m < 56 → ∀ (R : Fin 16) (l : Fin 128), x m (ix2 R l) = row R.val (128 * m + l.val))
  (ht : ∀ (m : ℕ), m < 56 → ∀ (r : Fin 8) (l : Fin 128), (t m (ix3 0 r l)).toNat < 128 ∧ 128 * m + (t m (ix3 0 r l)).toNat = col m (l.val / 32))
  (hn : ∀ (i : ℕ), i < 15 → ∀ (m : ℕ) (hm : m < 56), n i (ix2 0 ⟨m, by omega⟩) = thr m i)

include hx ht in
theorem pick_row (p : Fin 2) (r : Fin 8) (m : ℕ) (hm : m < 56) (q : ℕ) (hq : q < 4) :
    pick p (x m) (t m) (ix2 r ⟨32 * q + m % 32, lanes_lt q hq m⟩) = row (2 * r.val + p.val) (col m q) := by
  obtain ⟨h1, h2⟩ := ht m hm r ⟨32 * q + m % 32, lanes_lt q hq m⟩
  rw [pick_apply p (x m) (t m) r _ h1, hx m hm]
  have e : (32 * q + m % 32) / 32 = q := by omega
  simp only [e] at h2
  rw [h2]

include hx ht hn in
theorem halfLeaf_apply (p : Fin 2) (r : Fin 8) (m : ℕ) (hm : m < 56) :
    halfLeaf p x t n (ix2 r ⟨m, by omega⟩) = codeAt (row (2 * r.val + p.val)) (col m) (thr m) := by
  unfold halfLeaf
  rw [walk_apply, word0_apply p x t r m hm, word1_apply p x t r m hm, word2_apply p x t r m hm, word3_apply p x t r m hm,
    pick_row x t row col hx ht p r m hm 0 (by omega), pick_row x t row col hx ht p r m hm 1 (by omega),
    pick_row x t row col hx ht p r m hm 2 (by omega), pick_row x t row col hx ht p r m hm 3 (by omega)]
  simp only [codeAt, tree, treeBit1, treeBit2, treeBit3]
  rw [hn 0 (by omega) m hm, hn 1 (by omega) m hm, hn 2 (by omega) m hm, hn 3 (by omega) m hm, hn 4 (by omega) m hm,
    hn 5 (by omega) m hm, hn 6 (by omega) m hm, hn 7 (by omega) m hm, hn 8 (by omega) m hm, hn 9 (by omega) m hm,
    hn 10 (by omega) m hm, hn 11 (by omega) m hm, hn 12 (by omega) m hm, hn 13 (by omega) m hm, hn 14 (by omega) m hm]

include hx ht hn in
theorem leaf_apply (r : Fin 8) (m : ℕ) (hm : m < 56) :
    leaf x t n (ix2 r ⟨m, by omega⟩)
      = packLeaf (codeAt (row (2 * r.val)) (col m) (thr m)) (codeAt (row (2 * r.val + 1)) (col m) (thr m)) := by
  show (halfLeaf 0 x t n (ix2 r ⟨m, by omega⟩)) ||| IntOp.shli .vector (halfLeaf 1 x t n (ix2 r ⟨m, by omega⟩)) 16#32 = _
  rw [halfLeaf_apply x t n row col thr hx ht hn 0 r m hm, halfLeaf_apply x t n row col thr hx ht hn 1 r m hm]
  rfl
end Leaf

/-! ## The one-hot row -/

/-- One word of the one-hot rows, from the packed leaf and the column's leaf number. -/
def hotWord (w j low high : BitVec 32) : BitVec 32 :=
  (Scalar.select (IntOp.cmpi .eq ((w ^^^ (j ||| (j <<< (16#32 : BitVec 32)))) &&& 65535#32) 0#32) low 0#32)
    ||| (Scalar.select (IntOp.cmpi .slt (w ^^^ (j ||| (j <<< (16#32 : BitVec 32)))) 65536#32) high 0#32)

theorem hotWord_half (e o j : Fin 16) (b : Fin 2) (q : Fin 2) :
    (hotWord (packLeaf (BitVec.ofNat 32 e.val) (BitVec.ofNat 32 o.val)) (BitVec.ofNat 32 j.val)
      (if b = 0 then 16256#32 else 18044#32) (if b = 0 then 1065353216#32 else 1182531584#32)).extractLsb' (16 * q.val) 16
      = if (if q = 0 then e else o) = j then (if b = 0 then 16256#16 else 18044#16) else 0#16 := by
  revert e o j b q
  decide +kernel

end Cert.KernelIdeal.Gen
end
-- ==== Proof.Loop1.lean ====
/-
The first loop: after its sixteen trips the one-hot block holds each row's leaves as ones (the last eight codebooks once more as 16128), and the leaf block holds the packed leaves.
-/
module

public import proofs.«01_k».proof.Proof.Meaning
public import Idealize.ShloMosaic.Lib.Pipeline.ValueKit.Geometry

@[expose] public section

set_option maxRecDepth 16384

noncomputable section

namespace Cert.KernelIdeal.Gen

open Idealize.ShloMosaic Idealize.ShloMosaic.TcCoe Idealize.ShloMosaic.Tactic
open Facts

theorem lt128 {m : ℕ} (h : m < 56) : m < 128 := by omega

theorem lt16 {i : ℕ} (h : i < 15) : i < 16 := by omega

/-- A cell lies in a rectangle of unit strides when every coordinate lies within the rectangle's bounds. -/
theorem mem_unit {S : Shape} (off size : Fin S.rank → ℕ) (inb : ∀ d, off d + size d ≤ S.size d) (y : S.Idx)
    (h : ∀ a, off a ≤ (y a).val ∧ (y a).val < off a + size a) : y ∈ (Rect.unit off size inb).set := by
  refine (LoadRect.mem_set _).2 fun a => ⟨(y a).val - off a, ?_, ?_⟩
  · have := h a; show _ < size a; omega
  · have := h a; show (y a).val = off a + 1 * ((y a).val - off a); omega

/-- The cells of one tile of one slab of the one-hot block. -/
theorem slab_cell (k : Fin k0_t1_loop.trips) (t : ℕ) (off : Fin 2 → ℕ) (inb : ∀ d, off d + S16x128.size d ≤ S256x1024.size d)
    (h0 : off 0 = 16 * k.val) (h1 : off 1 = 128 * t) (y : S256x1024.Idx) (hk : k.val = (y 0).val / 16) (ht : (y 1).val / 128 = t) :
    y ∈ (Rect.unit (s := S256x1024) off S16x128.size inb).set := by
  refine mem_unit _ _ _ _ fun a => ?_
  match a with
  | ⟨0, _⟩ => show off 0 ≤ (y 0).val ∧ (y 0).val < off 0 + 16; rw [h0, hk]; omega
  | ⟨1, _⟩ => show off 1 ≤ (y 1).val ∧ (y 1).val < off 1 + 128; rw [h1, ← ht]; omega

theorem k0_off57_val : ∀ k : Fin k0_t1_loop.trips, k0_off57 k 0 = 8 * k.val := by decide
theorem slabOff_val : ∀ k : Fin k0_t1_loop.trips, (k0_off58 k 0 = 16 * k.val ∧ k0_off59 k 0 = 16 * k.val ∧ k0_off60 k 0 = 16 * k.val ∧ k0_off61 k 0 = 16 * k.val)
    ∧ (k0_off62 k 0 = 16 * k.val ∧ k0_off63 k 0 = 16 * k.val ∧ k0_off64 k 0 = 16 * k.val ∧ k0_off65 k 0 = 16 * k.val) := by decide
theorem k0_off1_val : ∀ k : Fin k0_t1_loop.trips, k0_off1 k 0 = 16 * k.val := by decide

/-! ## The one-hot rows of one slab -/

theorem ofBits_one16 : Ideal.ofBits .bf16 16256#16 = 1 := by
  simp [Ideal.ofBits, Ideal.ieee]; rw [← EReal.coe_mul]; norm_num
theorem ofBits_big16 : Ideal.ofBits .bf16 18044#16 = ((16128 : ℝ) : EReal) := by
  simp [Ideal.ofBits, Ideal.ieee]; norm_cast
theorem ofBits_zero16 : Ideal.ofBits .bf16 0#16 = 0 := by
  simp [Ideal.ofBits, Ideal.ieee]

theorem onehotWord_apply (lf : IVec S8x128 32) (tile : ℕ) (low high : BitVec 32) (r : Fin 8) (L : Fin 128) (h : tile + L.val / 16 < 128) :
    onehotWord lf (BitVec.ofNat 32 tile) low high (ix2 r L)
      = hotWord (lf (ix2 r ⟨tile + L.val / 16, h⟩)) (BitVec.ofNat 32 (L.val % 16)) low high := by
  have hi : (addi laneDiv16 (broadcast S8x128 (BitVec.ofNat 32 tile)) (ix2 r L)).toNat = tile + L.val / 16 := by
    show (laneDiv16 (ix2 r L) + BitVec.ofNat 32 tile).toNat = _
    rw [laneDiv16_apply, ← BitVec.ofNat_add, BitVec.toNat_ofNat]; omega
  have hg : dynamicGather 1 lf (wrapIdx (addi laneDiv16 (broadcast S8x128 (BitVec.ofNat 32 tile)))) (ix2 r L)
      = lf (ix2 r ⟨tile + L.val / 16, h⟩) := by
    unfold dynamicGather
    refine congrArg lf (funext fun a => Fin.ext ?_)
    match a with
    | ⟨0, _⟩ => rfl
    | ⟨1, _⟩ =>
      show (wrapIdx (addi laneDiv16 (broadcast S8x128 (BitVec.ofNat 32 tile))) (ix2 r L)).toNat % 128 = tile + L.val / 16
      rw [wrapIdx_apply _ _ _ (by rw [hi]; exact h), hi]
      exact Nat.mod_eq_of_lt h
  have hd : diff lf (BitVec.ofNat 32 tile) (ix2 r L)
      = lf (ix2 r ⟨tile + L.val / 16, h⟩) ^^^ (BitVec.ofNat 32 (L.val % 16) ||| ((BitVec.ofNat 32 (L.val % 16)) <<< (16#32 : BitVec 32))) := by
    rw [← hg, ← laneMod16_apply r L]; rfl
  unfold hotWord
  rw [← hd]; rfl

theorem onehot_apply (lf : IVec S8x128 32) (cd : ℕ → ℕ → BitVec 32) (hlt : ∀ R m, (cd R m).toNat < 16) (base : ℕ)
    (hlf : ∀ (r : Fin 8) (m : ℕ) (hm : m < 56), lf (ix2 r ⟨m, by omega⟩) = packLeaf (cd (base + 2 * r.val) m) (cd (base + (2 * r.val + 1)) m))
    (tile : ℕ) (htile : tile ≤ 48) (b : Fin 2) (R : Fin 16) (L : Fin 128) :
    onehot (F := Ideal) lf (BitVec.ofNat 32 tile) (if b = 0 then 16256#32 else 18044#32) (if b = 0 then 1065353216#32 else 1182531584#32) (ix2 R L)
      = if (cd (base + R.val) (tile + L.val / 16)).toNat = L.val % 16 then (if b = 0 then (1 : EReal) else ((16128 : ℝ) : EReal)) else 0 := by
  have hL := L.isLt
  have hR := R.isLt
  unfold onehot
  rw [shapeCast_id]
  show Ideal.ofBits .bf16 (bitcast S16x128 16 (onehotWord lf (BitVec.ofNat 32 tile) _ _) bitcasts_S8x128_w32_S16x128_w16 (ix2 R L)) = _
  rw [bitcast_32_16]
  have e1 : S16x128.row (ix2 R L) = R.val := rfl
  have e2 : ∀ hp, Shape.Bitcasts.srcIdx bitcasts_S8x128_w32_S16x128_w16 (ix2 R L) (S16x128.row (ix2 R L) / 2) hp
      = (ix2 ⟨R.val / 2, by omega⟩ L : S8x128.Idx) := fun hp => funext fun a => Fin.ext (by
    match a with
    | ⟨0, _⟩ => rfl
    | ⟨1, _⟩ => rfl)
  rw [e2, onehotWord_apply lf tile _ _ _ L (by omega), hlf _ _ (by omega), e1]
  have hn : ∀ v : BitVec 32, v.toNat < 16 → v = BitVec.ofNat 32 v.toNat := fun v _ => by simp
  have key := hotWord_half ⟨_, hlt (base + 2 * (R.val / 2)) (tile + L.val / 16)⟩ ⟨_, hlt (base + (2 * (R.val / 2) + 1)) (tile + L.val / 16)⟩
    ⟨L.val % 16, by omega⟩ b ⟨R.val % 2, by omega⟩
  simp only [BitVec.ofNat_toNat, BitVec.setWidth_eq] at key
  rw [key]
  have er : (if (⟨R.val % 2, by omega⟩ : Fin 2) = 0 then (⟨_, hlt (base + 2 * (R.val / 2)) (tile + L.val / 16)⟩ : Fin 16)
      else ⟨_, hlt (base + (2 * (R.val / 2) + 1)) (tile + L.val / 16)⟩) = ⟨_, hlt (base + R.val) (tile + L.val / 16)⟩ := by
    by_cases h : R.val % 2 = 0
    · rw [if_pos (Fin.ext h)]
      exact Fin.ext (by show (cd (base + 2 * (R.val / 2)) _).toNat = (cd (base + R.val) _).toNat; rw [show 2 * (R.val / 2) = R.val by omega])
    · rw [if_neg (fun e => h (congrArg Fin.val e))]
      exact Fin.ext (by show (cd (base + (2 * (R.val / 2) + 1)) _).toNat = (cd (base + R.val) _).toNat; rw [show 2 * (R.val / 2) + 1 = R.val by omega])
  rw [er]
  by_cases hc : (cd (base + R.val) (tile + L.val / 16)).toNat = L.val % 16
  · rw [if_pos (Fin.ext hc), if_pos hc]
    by_cases hb : b = 0
    · rw [if_pos hb, if_pos hb]; exact ofBits_one16
    · rw [if_neg hb, if_neg hb]; exact ofBits_big16
  · rw [if_neg (fun e => hc (congrArg Fin.val e)), if_neg hc]; exact ofBits_zero16

/-! ## What a slab reads -/

variable (𝒱 : Variants) (c : Dev nD) (bd : Option 𝒱.V) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole)

section Reads
variable (X_arg3 : BufTy.Contents (Elt Ideal) arg3.view.ty) (X_arg8 : BufTy.Contents (Elt Ideal) arg8.view.ty) (X_arg9 : BufTy.Contents (Elt Ideal) arg9.view.ty)
  (row : ℕ → ℕ → EReal) (col : ℕ → ℕ → ℕ) (thr : ℕ → ℕ → EReal)
  (hx : ∀ (R : Fin 256) (C : Fin 7168), (arg3.view.read (Elt Ideal) X_arg3) (ix2 R C) = row R.val C.val)
  (ht : ∀ (m : Fin 56) (r : Fin 8) (l : Fin 128), ((arg8.view.read (Elt Ideal) X_arg8) (ix3 m r l)).toNat < 128
    ∧ 128 * m.val + ((arg8.view.read (Elt Ideal) X_arg8) (ix3 m r l)).toNat = col m.val (l.val / 32))
  (hn : ∀ (i : ℕ) (hi : i < 15) (m : ℕ) (hm : m < 56), (arg9.view.read (Elt Ideal) X_arg9) (ix2 ⟨i, lt16 hi⟩ ⟨m, lt128 hm⟩) = thr m i)

/-- The leaf of every row of the block and every codebook. -/
def leaves (row : ℕ → ℕ → EReal) (col : ℕ → ℕ → ℕ) (thr : ℕ → ℕ → EReal) (R m : ℕ) : BitVec 32 := codeAt (row R) (col m) (thr m)

theorem leaves_lt (row : ℕ → ℕ → EReal) (col : ℕ → ℕ → ℕ) (thr : ℕ → ℕ → EReal) (R m : ℕ) : (leaves row col thr R m).toNat < 16 := codeAt_lt _ _ _

include hx in
theorem slab_apply (k : Fin k0_t1_loop.trips) (m : ℕ) (hm : m < 56) (R : Fin 16) (l : Fin 128) :
    slab arg3 X_arg3 k m (ix2 R l) = row (16 * k.val + R.val) (128 * m + l.val) := by
  have hk : k.val < 16 := k.isLt
  have e := hx ⟨16 * k.val + R.val, by omega⟩ ⟨128 * m + l.val, by omega⟩
  rw [← e]
  unfold slab
  rw [View.readAt_eq_ld]
  refine View.ld_unit_apply_of _ _ _ _ _ _ fun a => ?_
  match a with
  | ⟨0, _⟩ => show 16 * k.val + R.val = k0_off1 k 0 + R.val; rw [k0_off1_val]
  | ⟨1, _⟩ => show 128 * m + l.val = 128 * (m % 56) + l.val; rw [Nat.mod_eq_of_lt hm]

include ht in
theorem tab_apply (m : ℕ) (hm : m < 56) (r : Fin 8) (l : Fin 128) : (tab arg8 X_arg8 m (ix3 0 r l)).toNat < 128
    ∧ 128 * m + (tab arg8 X_arg8 m (ix3 0 r l)).toNat = col m (l.val / 32) := by
  have e : tab arg8 X_arg8 m (ix3 0 r l) = (arg8.view.read (Elt Ideal) X_arg8) (ix3 ⟨m, hm⟩ r l) := by
    unfold tab
    rw [View.readAt_eq_ld]
    refine View.ld_unit_apply_of _ _ _ _ _ _ fun a => ?_
    match a with
    | ⟨0, _⟩ => show m = m % 56 + 0; rw [Nat.mod_eq_of_lt hm]; rfl
    | ⟨1, _⟩ => show r.val = 0 + r.val; omega
    | ⟨2, _⟩ => show l.val = 0 + l.val; omega
  rw [e]; exact ht ⟨m, hm⟩ r l

include hn in
theorem node_apply (i : ℕ) (hi : i < 15) (m : ℕ) (hm : m < 56) : node arg9 X_arg9 i (ix2 0 ⟨m, by omega⟩) = thr m i := by
  rw [← hn i hi m hm]
  unfold node
  rw [View.readAt_eq_ld]
  refine View.ld_unit_apply_of _ _ _ _ _ _ fun a => ?_
  match a with
  | ⟨0, _⟩ => show i = i % 16 + 0; rw [Nat.mod_eq_of_lt (by omega)]; rfl
  | ⟨1, _⟩ => show m = 0 + m; omega

include hx ht hn in
theorem slabLeaf_apply (k : Fin k0_t1_loop.trips) (r : Fin 8) (m : ℕ) (hm : m < 56) :
    slabLeaf arg3 arg8 arg9 X_arg3 X_arg8 X_arg9 k (ix2 r ⟨m, by omega⟩)
      = packLeaf (leaves row col thr (16 * k.val + 2 * r.val) m) (leaves row col thr (16 * k.val + (2 * r.val + 1)) m) :=
  leaf_apply (slab arg3 X_arg3 k) (tab arg8 X_arg8) (node arg9 X_arg9) (fun R => row (16 * k.val + R)) col thr
    (fun m hm R l => slab_apply arg3 X_arg3 row hx k m hm R l) (fun m hm r l => tab_apply arg8 X_arg8 col ht m hm r l)
    (fun i hi m hm => node_apply arg9 X_arg9 thr hn i hi m hm) r m hm

/-- The codebook whose leaves column `C` of the one-hot block holds. -/
def bookOf (C : ℕ) : ℕ := if C < 896 then C / 16 else C / 16 - 8

/-- The one-hot block: a row's leaf marked by one, the last eight codebooks once more by 16128. -/
def hotAt (cd : ℕ → ℕ → BitVec 32) (y : S256x1024.Idx) : EReal :=
  if (cd (y 0).val (bookOf (y 1).val)).toNat = (y 1).val % 16 then (if (y 1).val < 896 then (1 : EReal) else ((16128 : ℝ) : EReal)) else 0

include hx ht hn in
theorem hot_piece (k : Fin k0_t1_loop.trips) (t : ℕ) (ht8 : t < 8) (off : Fin 2 → ℕ) (inb : ∀ d, off d + S16x128.size d ≤ S256x1024.size d)
    (h0 : off 0 = 16 * k.val) (h1 : off 1 = 128 * t) (tile : ℕ) (htile : tile = if t < 7 then 8 * t else 48) (b : Fin 2) (hb : b = if t < 7 then 0 else 1)
    (low high : BitVec 32) (hlow : low = if b = 0 then 16256#32 else 18044#32) (hhigh : high = if b = 0 then 1065353216#32 else 1182531584#32)
    (x : S16x128.Idx) :
    onehot (F := Ideal) (slabLeaf arg3 arg8 arg9 X_arg3 X_arg8 X_arg9 k) (BitVec.ofNat 32 tile) low high x
      = hotAt (leaves row col thr) ((Rect.unit (s := S256x1024) off S16x128.size inb).emb x) := by
  subst hlow hhigh
  have hx0 : (x 0).val < 16 := (x 0).isLt
  have hx1 : (x 1).val < 128 := (x 1).isLt
  have htl : tile ≤ 48 := by rw [htile]; split <;> omega
  have e0 : (((Rect.unit (s := S256x1024) off S16x128.size inb).emb x) 0).val = 16 * k.val + (x 0).val := by
    rw [ValueKit.rect_emb_unit_val]; show off 0 + _ = _; rw [h0]
  have e1 : (((Rect.unit (s := S256x1024) off S16x128.size inb).emb x) 1).val = 128 * t + (x 1).val := by
    rw [ValueKit.rect_emb_unit_val]; show off 1 + _ = _; rw [h1]
  have key := onehot_apply (slabLeaf arg3 arg8 arg9 X_arg3 X_arg8 X_arg9 k) (leaves row col thr) (leaves_lt row col thr) (16 * k.val)
    (fun r m hm => slabLeaf_apply arg3 arg8 arg9 X_arg3 X_arg8 X_arg9 row col thr hx ht hn k r m hm) tile htl b (x 0) (x 1)
  have ex : (ix2 (x 0) (x 1) : S16x128.Idx) = x := ix2_eta x
  rw [ex] at key
  rw [key]
  unfold hotAt
  rw [e0, e1]
  have eb : tile + (x 1).val / 16 = bookOf (128 * t + (x 1).val) := by
    unfold bookOf; rw [htile]; split_ifs <;> omega
  have em : (128 * t + (x 1).val) % 16 = (x 1).val % 16 := by omega
  rw [eb, em]
  have ec : (if b = 0 then (1 : EReal) else ((16128 : ℝ) : EReal)) = if 128 * t + (x 1).val < 896 then (1 : EReal) else ((16128 : ℝ) : EReal) := by
    rw [hb]
    by_cases h7 : t < 7
    · rw [if_pos h7, if_pos rfl, if_pos (by omega)]
    · rw [if_neg h7, if_neg (by decide), if_neg (by omega)]
  rw [ec]

end Reads

/-! ## The trips before a trip -/

section Trips
variable (X_arg3 : BufTy.Contents (Elt Ideal) arg3.view.ty) (X_arg8 : BufTy.Contents (Elt Ideal) arg8.view.ty) (X_arg9 : BufTy.Contents (Elt Ideal) arg9.view.ty)

theorem mem_pb1 (n : ℕ) (hn : n ≤ 16) (p : View.Piece (Elt Ideal) S256x1024 .bf16) :
    p ∈ (pb_k0_t1 (F := Ideal) 𝒱 c bd i arg1 harg1 arg2 harg2 arg3 harg3 arg4 harg4 arg5 harg5 arg6 harg6 arg7 harg7 arg8 harg8 arg9 harg9 arg10 harg10 arg11 harg11 X_arg3 X_arg8 X_arg9 n).1
      ↔ ∃ k : Fin k0_t1_loop.trips, k.val < n ∧ p ∈ (trip_k0_t1 (F := Ideal) 𝒱 c bd i arg1 harg1 arg2 harg2 arg3 harg3 arg4 harg4 arg5 harg5 arg6 harg6 arg7 harg7 arg8 harg8 arg9 harg9 arg10 harg10 arg11 harg11 X_arg3 X_arg8 X_arg9 k).1 := by
  induction n with
  | zero => exact ⟨fun h => by simp [pb_k0_t1] at h, fun ⟨k, hk, _⟩ => absurd hk (by omega)⟩
  | succ n ih =>
    have hs := pb_k0_t1_succ (F := Ideal) 𝒱 c bd i arg1 harg1 arg2 harg2 arg3 harg3 arg4 harg4 arg5 harg5 arg6 harg6 arg7 harg7 arg8 harg8 arg9 harg9 arg10 harg10 arg11 harg11 X_arg3 X_arg8 X_arg9 (⟨n, by show n < 16; omega⟩ : Fin k0_t1_loop.trips)
    rw [show n + 1 = (⟨n, by show n < 16; omega⟩ : Fin k0_t1_loop.trips).val + 1 from rfl, hs]
    show p ∈ _ ++ _ ↔ _
    rw [List.mem_append]
    constructor
    · rintro (h | h)
      · exact ⟨_, Nat.lt_succ_self _, h⟩
      · obtain ⟨k, hk, hp⟩ := (ih (by omega)).1 h
        exact ⟨k, Nat.lt_succ_of_lt hk, hp⟩
    · rintro ⟨k, hk, hp⟩
      by_cases e : k.val = n
      · exact Or.inl ((show k = ⟨n, by show n < 16; omega⟩ from Fin.ext e) ▸ hp)
      · exact Or.inr ((ih (by omega)).2 ⟨k, by have hk : k.val < n + 1 := hk; omega, hp⟩)

theorem mem_pb2 (n : ℕ) (hn : n ≤ 16) (p : View.Piece (Elt Ideal) S128x128 .i32) :
    p ∈ (pb_k0_t1 (F := Ideal) 𝒱 c bd i arg1 harg1 arg2 harg2 arg3 harg3 arg4 harg4 arg5 harg5 arg6 harg6 arg7 harg7 arg8 harg8 arg9 harg9 arg10 harg10 arg11 harg11 X_arg3 X_arg8 X_arg9 n).2
      ↔ ∃ k : Fin k0_t1_loop.trips, k.val < n ∧ p ∈ (trip_k0_t1 (F := Ideal) 𝒱 c bd i arg1 harg1 arg2 harg2 arg3 harg3 arg4 harg4 arg5 harg5 arg6 harg6 arg7 harg7 arg8 harg8 arg9 harg9 arg10 harg10 arg11 harg11 X_arg3 X_arg8 X_arg9 k).2.1 := by
  induction n with
  | zero => exact ⟨fun h => by simp [pb_k0_t1] at h, fun ⟨k, hk, _⟩ => absurd hk (by omega)⟩
  | succ n ih =>
    have hs := pb_k0_t1_succ (F := Ideal) 𝒱 c bd i arg1 harg1 arg2 harg2 arg3 harg3 arg4 harg4 arg5 harg5 arg6 harg6 arg7 harg7 arg8 harg8 arg9 harg9 arg10 harg10 arg11 harg11 X_arg3 X_arg8 X_arg9 (⟨n, by show n < 16; omega⟩ : Fin k0_t1_loop.trips)
    rw [show n + 1 = (⟨n, by show n < 16; omega⟩ : Fin k0_t1_loop.trips).val + 1 from rfl, hs]
    show p ∈ _ ++ _ ↔ _
    rw [List.mem_append]
    constructor
    · rintro (h | h)
      · exact ⟨_, Nat.lt_succ_self _, h⟩
      · obtain ⟨k, hk, hp⟩ := (ih (by omega)).1 h
        exact ⟨k, Nat.lt_succ_of_lt hk, hp⟩
    · rintro ⟨k, hk, hp⟩
      by_cases e : k.val = n
      · exact Or.inl ((show k = ⟨n, by show n < 16; omega⟩ from Fin.ext e) ▸ hp)
      · exact Or.inr ((ih (by omega)).2 ⟨k, by have hk : k.val < n + 1 := hk; omega, hp⟩)

theorem slabNo_lt (y : S128x128.Idx) : (y 0).val / 8 < k0_t1_loop.trips := by
  have : (y 0).val < 128 := (y 0).isLt
  show (y 0).val / 8 < 16
  omega

theorem mod8_lt (n : ℕ) : n % 8 < 8 := Nat.mod_lt _ (by decide)

/-- All the leaf words of the block, slab by slab. -/
def allLeaf (y : S128x128.Idx) : BitVec 32 :=
  slabLeaf arg3 arg8 arg9 X_arg3 X_arg8 X_arg9 ⟨(y 0).val / 8, slabNo_lt y⟩ (ix2 ⟨(y 0).val % 8, mod8_lt (y 0).val⟩ (y 1))

theorem canon_leaf (y : S128x128.Idx) :
    View.canon (pb_k0_t1 (F := Ideal) 𝒱 c bd i arg1 harg1 arg2 harg2 arg3 harg3 arg4 harg4 arg5 harg5 arg6 harg6 arg7 harg7 arg8 harg8 arg9 harg9 arg10 harg10 arg11 harg11 X_arg3 X_arg8 X_arg9 16).2 y = allLeaf arg3 arg8 arg9 X_arg3 X_arg8 X_arg9 y := by
  refine View.canon_apply_of_pieces (Val := Elt Ideal) (e := .i32) (allLeaf arg3 arg8 arg9 X_arg3 X_arg8 X_arg9) _ (fun p hp x => ?_) y ?_
  · obtain ⟨k, hk, hp⟩ := (mem_pb2 𝒱 c bd i arg1 harg1 arg2 harg2 arg3 harg3 arg4 harg4 arg5 harg5 arg6 harg6 arg7 harg7 arg8 harg8 arg9 harg9 arg10 harg10 arg11 harg11 X_arg3 X_arg8 X_arg9 16 le_rfl p).1 hp
    rw [trip_leaf, List.mem_singleton] at hp
    subst hp
    have hx0 : (x 0).val < 8 := (x 0).isLt
    show shapeCast S8x128 (slabLeaf arg3 arg8 arg9 X_arg3 X_arg8 X_arg9 k) shapeCasts_S8x128_S8x128 x = _
    rw [shapeCast_id]
    have e0 : (((Rect.unit (s := S128x128) (k0_off57 k) S8x128.size (k0_off57_inb k)).emb x) 0).val = 8 * k.val + (x 0).val := by
      rw [ValueKit.rect_emb_unit_val, k0_off57_val]
    have e1 : (((Rect.unit (s := S128x128) (k0_off57 k) S8x128.size (k0_off57_inb k)).emb x) 1).val = (x 1).val := by
      rw [ValueKit.rect_emb_unit_val]; show 0 + _ = _; rw [Nat.zero_add]
    unfold allLeaf
    have ek : ∀ h, (⟨(((Rect.unit (s := S128x128) (k0_off57 k) S8x128.size (k0_off57_inb k)).emb x) 0).val / 8, h⟩ : Fin k0_t1_loop.trips) = k :=
      fun h => Fin.ext (by show _ / 8 = k.val; rw [e0]; omega)
    rw [ek]
    refine congrArg _ (funext fun a => Fin.ext ?_)
    match a with
    | ⟨0, _⟩ => show (x 0).val = _ % 8; rw [e0]; omega
    | ⟨1, _⟩ => exact e1.symm
  · have hy0 : (y 0).val < 128 := (y 0).isLt
    have hy1 : (y 1).val < 128 := (y 1).isLt
    refine ⟨_, (mem_pb2 𝒱 c bd i arg1 harg1 arg2 harg2 arg3 harg3 arg4 harg4 arg5 harg5 arg6 harg6 arg7 harg7 arg8 harg8 arg9 harg9 arg10 harg10 arg11 harg11 X_arg3 X_arg8 X_arg9 16 le_rfl _).2 ⟨⟨(y 0).val / 8, by show _ < 16; omega⟩, by show _ / 8 < 16; omega, by rw [trip_leaf]; exact List.mem_singleton.2 rfl⟩, ?_⟩
    refine mem_unit _ _ (k0_off57_inb _) _ fun a => ?_
    match a with
    | ⟨0, _⟩ => show k0_off57 _ 0 ≤ (y 0).val ∧ (y 0).val < k0_off57 _ 0 + 8; rw [k0_off57_val]; dsimp only; omega
    | ⟨1, _⟩ => show 0 ≤ (y 1).val ∧ (y 1).val < 0 + 128; omega

variable (row : ℕ → ℕ → EReal) (col : ℕ → ℕ → ℕ) (thr : ℕ → ℕ → EReal)
  (hx : ∀ (R : Fin 256) (C : Fin 7168), (arg3.view.read (Elt Ideal) X_arg3) (ix2 R C) = row R.val C.val)
  (ht : ∀ (m : Fin 56) (r : Fin 8) (l : Fin 128), ((arg8.view.read (Elt Ideal) X_arg8) (ix3 m r l)).toNat < 128
    ∧ 128 * m.val + ((arg8.view.read (Elt Ideal) X_arg8) (ix3 m r l)).toNat = col m.val (l.val / 32))
  (hn : ∀ (i : ℕ) (hi : i < 15) (m : ℕ) (hm : m < 56), (arg9.view.read (Elt Ideal) X_arg9) (ix2 ⟨i, lt16 hi⟩ ⟨m, lt128 hm⟩) = thr m i)

include hx ht hn in
theorem allLeaf_apply (P : Fin 128) (m : ℕ) (hm : m < 56) :
    allLeaf arg3 arg8 arg9 X_arg3 X_arg8 X_arg9 (ix2 P ⟨m, lt128 hm⟩)
      = packLeaf (leaves row col thr (2 * P.val) m) (leaves row col thr (2 * P.val + 1) m) := by
  have := slabLeaf_apply arg3 arg8 arg9 X_arg3 X_arg8 X_arg9 row col thr hx ht hn ⟨P.val / 8, by show P.val / 8 < 16; omega⟩ ⟨P.val % 8, by omega⟩ m hm
  rw [show 16 * (P.val / 8) + 2 * (P.val % 8) = 2 * P.val by omega, show 16 * (P.val / 8) + (2 * (P.val % 8) + 1) = 2 * P.val + 1 by omega] at this
  exact this

include hx ht hn in
theorem trip_hot (k : Fin k0_t1_loop.trips) : ∀ p ∈ (trip_k0_t1 (F := Ideal) 𝒱 c bd i arg1 harg1 arg2 harg2 arg3 harg3 arg4 harg4 arg5 harg5 arg6 harg6 arg7 harg7 arg8 harg8 arg9 harg9 arg10 harg10 arg11 harg11 X_arg3 X_arg8 X_arg9 k).1,
    ∀ x, p.2 x = hotAt (leaves row col thr) (p.1.emb x) := by
  rw [trip_lhs]
  refine List.forall_mem_cons.2 ⟨fun x => hot_piece arg3 arg8 arg9 X_arg3 X_arg8 X_arg9 row col thr hx ht hn k 7 (by omega) _ (k0_off65_inb k) (slabOff_val _).2.2.2.2 rfl 48 rfl 1 rfl _ _ rfl rfl x,
    List.forall_mem_cons.2 ⟨fun x => hot_piece arg3 arg8 arg9 X_arg3 X_arg8 X_arg9 row col thr hx ht hn k 6 (by omega) _ (k0_off64_inb k) (slabOff_val _).2.2.2.1 rfl 48 rfl 0 rfl _ _ rfl rfl x,
    List.forall_mem_cons.2 ⟨fun x => hot_piece arg3 arg8 arg9 X_arg3 X_arg8 X_arg9 row col thr hx ht hn k 5 (by omega) _ (k0_off63_inb k) (slabOff_val _).2.2.1 rfl 40 rfl 0 rfl _ _ rfl rfl x,
    List.forall_mem_cons.2 ⟨fun x => hot_piece arg3 arg8 arg9 X_arg3 X_arg8 X_arg9 row col thr hx ht hn k 4 (by omega) _ (k0_off62_inb k) (slabOff_val _).2.1 rfl 32 rfl 0 rfl _ _ rfl rfl x,
    List.forall_mem_cons.2 ⟨fun x => hot_piece arg3 arg8 arg9 X_arg3 X_arg8 X_arg9 row col thr hx ht hn k 3 (by omega) _ (k0_off61_inb k) (slabOff_val _).1.2.2.2 rfl 24 rfl 0 rfl _ _ rfl rfl x,
    List.forall_mem_cons.2 ⟨fun x => hot_piece arg3 arg8 arg9 X_arg3 X_arg8 X_arg9 row col thr hx ht hn k 2 (by omega) _ (k0_off60_inb k) (slabOff_val _).1.2.2.1 rfl 16 rfl 0 rfl _ _ rfl rfl x,
    List.forall_mem_cons.2 ⟨fun x => hot_piece arg3 arg8 arg9 X_arg3 X_arg8 X_arg9 row col thr hx ht hn k 1 (by omega) _ (k0_off59_inb k) (slabOff_val _).1.2.1 rfl 8 rfl 0 rfl _ _ rfl rfl x,
    List.forall_mem_cons.2 ⟨fun x => hot_piece arg3 arg8 arg9 X_arg3 X_arg8 X_arg9 row col thr hx ht hn k 0 (by omega) _ (k0_off58_inb k) (slabOff_val _).1.1 rfl 0 rfl 0 rfl _ _ rfl rfl x,
    fun p hp => absurd hp List.not_mem_nil⟩⟩⟩⟩⟩⟩⟩⟩

theorem trip_hot_cover (k : Fin k0_t1_loop.trips) (y : S256x1024.Idx) (hk : k.val = (y 0).val / 16) :
    ∃ p ∈ (trip_k0_t1 (F := Ideal) 𝒱 c bd i arg1 harg1 arg2 harg2 arg3 harg3 arg4 harg4 arg5 harg5 arg6 harg6 arg7 harg7 arg8 harg8 arg9 harg9 arg10 harg10 arg11 harg11 X_arg3 X_arg8 X_arg9 k).1, y ∈ p.1.set := by
  have hy1 : (y 1).val < 1024 := (y 1).isLt
  rw [trip_lhs]
  have h8 : (y 1).val / 128 = 7 ∨ (y 1).val / 128 = 6 ∨ (y 1).val / 128 = 5 ∨ (y 1).val / 128 = 4 ∨ (y 1).val / 128 = 3 ∨ (y 1).val / 128 = 2 ∨ (y 1).val / 128 = 1 ∨ (y 1).val / 128 = 0 := by omega
  rcases h8 with h | h | h | h | h | h | h | h
  · exact ⟨_, (List.mem_cons_self ..), slab_cell _ 7 _ (k0_off65_inb k) (slabOff_val _).2.2.2.2 rfl y hk h⟩
  · exact ⟨_, (List.mem_cons_of_mem _ (List.mem_cons_self ..)), slab_cell _ 6 _ (k0_off64_inb k) (slabOff_val _).2.2.2.1 rfl y hk h⟩
  · exact ⟨_, (List.mem_cons_of_mem _ (List.mem_cons_of_mem _ (List.mem_cons_self ..))), slab_cell _ 5 _ (k0_off63_inb k) (slabOff_val _).2.2.1 rfl y hk h⟩
  · exact ⟨_, (List.mem_cons_of_mem _ (List.mem_cons_of_mem _ (List.mem_cons_of_mem _ (List.mem_cons_self ..)))), slab_cell _ 4 _ (k0_off62_inb k) (slabOff_val _).2.1 rfl y hk h⟩
  · exact ⟨_, (List.mem_cons_of_mem _ (List.mem_cons_of_mem _ (List.mem_cons_of_mem _ (List.mem_cons_of_mem _ (List.mem_cons_self ..))))), slab_cell _ 3 _ (k0_off61_inb k) (slabOff_val _).1.2.2.2 rfl y hk h⟩
  · exact ⟨_, (List.mem_cons_of_mem _ (List.mem_cons_of_mem _ (List.mem_cons_of_mem _ (List.mem_cons_of_mem _ (List.mem_cons_of_mem _ (List.mem_cons_self ..)))))), slab_cell _ 2 _ (k0_off60_inb k) (slabOff_val _).1.2.2.1 rfl y hk h⟩
  · exact ⟨_, (List.mem_cons_of_mem _ (List.mem_cons_of_mem _ (List.mem_cons_of_mem _ (List.mem_cons_of_mem _ (List.mem_cons_of_mem _ (List.mem_cons_of_mem _ (List.mem_cons_self ..))))))), slab_cell _ 1 _ (k0_off59_inb k) (slabOff_val _).1.2.1 rfl y hk h⟩
  · exact ⟨_, (List.mem_cons_of_mem _ (List.mem_cons_of_mem _ (List.mem_cons_of_mem _ (List.mem_cons_of_mem _ (List.mem_cons_of_mem _ (List.mem_cons_of_mem _ (List.mem_cons_of_mem _ (List.mem_cons_self ..)))))))), slab_cell _ 0 _ (k0_off58_inb k) (slabOff_val _).1.1 rfl y hk h⟩

include hx ht hn in
theorem canon_hot (y : S256x1024.Idx) :
    View.canon (pb_k0_t1 (F := Ideal) 𝒱 c bd i arg1 harg1 arg2 harg2 arg3 harg3 arg4 harg4 arg5 harg5 arg6 harg6 arg7 harg7 arg8 harg8 arg9 harg9 arg10 harg10 arg11 harg11 X_arg3 X_arg8 X_arg9 16).1 y = hotAt (leaves row col thr) y := by
  refine View.canon_apply_of_pieces (Val := Elt Ideal) (e := .bf16) (hotAt (leaves row col thr)) _ (fun p hp x => ?_) y ?_
  · obtain ⟨k, hk, hp⟩ := (mem_pb1 𝒱 c bd i arg1 harg1 arg2 harg2 arg3 harg3 arg4 harg4 arg5 harg5 arg6 harg6 arg7 harg7 arg8 harg8 arg9 harg9 arg10 harg10 arg11 harg11 X_arg3 X_arg8 X_arg9 16 le_rfl p).1 hp
    exact trip_hot 𝒱 c bd i arg1 harg1 arg2 harg2 arg3 harg3 arg4 harg4 arg5 harg5 arg6 harg6 arg7 harg7 arg8 harg8 arg9 harg9 arg10 harg10 arg11 harg11 X_arg3 X_arg8 X_arg9 row col thr hx ht hn k p hp x
  · have hy0 : (y 0).val < 256 := (y 0).isLt
    obtain ⟨p, hp, hy⟩ := trip_hot_cover 𝒱 c bd i arg1 harg1 arg2 harg2 arg3 harg3 arg4 harg4 arg5 harg5 arg6 harg6 arg7 harg7 arg8 harg8 arg9 harg9 arg10 harg10 arg11 harg11 X_arg3 X_arg8 X_arg9 (⟨(y 0).val / 16, by show _ < 16; omega⟩ : Fin k0_t1_loop.trips) y rfl
    exact ⟨p, (mem_pb1 𝒱 c bd i arg1 harg1 arg2 harg2 arg3 harg3 arg4 harg4 arg5 harg5 arg6 harg6 arg7 harg7 arg8 harg8 arg9 harg9 arg10 harg10 arg11 harg11 X_arg3 X_arg8 X_arg9 16 le_rfl p).2 ⟨_, by show _ / 16 < 16; omega, hp⟩, hy⟩

end Trips

end Cert.KernelIdeal.Gen
end
-- ==== Proof.Product.lean ====
/-
One block of the product. A product with one-hot rows is a sum of table entries; the packed quotient of two columns' sums comes apart exactly, because sums of bytes over few codebooks are small beside 16128.
-/
module

public import proofs.«01_k».proof.Proof.Loop1
public import Idealize.ShloMosaic.Lib.MatmulPlain
public import Idealize.ShloMosaic.Lib.Pipeline.Value
public import Idealize.ShloMosaic.Lib.Pointwise.SelectCore
public import Idealize.ShloMosaic.Lib.Pointwise.IndexBridge

@[expose] public section

set_option maxRecDepth 16384

noncomputable section

namespace Cert.KernelIdeal.Gen

open Idealize.ShloMosaic Idealize.ShloMosaic.TcCoe Idealize.ShloMosaic.Tactic
open Facts

/-! ## One-hot sums -/

/-- Sixteen columns a codebook: the sum of what the marked columns hold. -/
theorem sum_marked (c : ℕ → ℕ) (hc : ∀ m, c m < 16) (f : ℕ → ℤ) (n : ℕ) :
    ∑ C ∈ Finset.range (16 * n), (if c (C / 16) = C % 16 then f C else 0) = ∑ m ∈ Finset.range n, f (16 * m + c m) := by
  induction n with
  | zero => rfl
  | succ n ih =>
    rw [show 16 * (n + 1) = 16 * n + 16 by ring, Finset.sum_range_add, ih, Finset.sum_range_succ (fun m => f (16 * m + c m)) n]
    congr 1
    rw [Finset.sum_eq_single (c n)]
    · rw [if_pos (by rw [show (16 * n + c n) / 16 = n by have := hc n; omega]; have := hc n; omega)]
    · intro j hj hne
      rw [Finset.mem_range] at hj
      rw [if_neg (by rw [show (16 * n + j) / 16 = n by omega]; omega)]
    · intro h; exact absurd (Finset.mem_range.2 (hc n)) h

/-- The entry of the one-hot block as an integer. -/
def hotZ (cd : ℕ → ℕ → BitVec 32) (R C : ℕ) : ℤ :=
  if (cd R (bookOf C)).toNat = C % 16 then (if C < 896 then 1 else 16128) else 0

theorem hotAt_eq (cd : ℕ → ℕ → BitVec 32) (y : S256x1024.Idx) : hotAt cd y = ((hotZ cd (y 0).val (y 1).val : ℝ) : EReal) := by
  unfold hotAt hotZ
  split_ifs <;> simp

/-- What a row of leaves takes from a column of the table. -/
def taken (c : ℕ → ℕ) (L : ℕ → ℤ) : ℤ := ∑ m ∈ Finset.range 56, L (16 * m + c m)

/-- The last eight codebooks' part of it. -/
def takenLast (c : ℕ → ℕ) (L : ℕ → ℤ) : ℤ := ∑ m ∈ Finset.range 8, L (16 * (48 + m) + c (48 + m))

section Sums
variable (cd : ℕ → ℕ → BitVec 32) (hcd : ∀ R m, (cd R m).toNat < 16) (R : ℕ)

include hcd in
theorem sum_main (L : ℕ → ℤ) :
    ∑ C ∈ Finset.range 768, hotZ cd R C * L C = taken (fun m => (cd R m).toNat) L - takenLast (fun m => (cd R m).toNat) L := by
  have e : ∑ C ∈ Finset.range (16 * 48), hotZ cd R C * L C
      = ∑ C ∈ Finset.range (16 * 48), (if (cd R (C / 16)).toNat = C % 16 then L C else 0) := by
    refine Finset.sum_congr rfl fun C hC => ?_
    rw [Finset.mem_range] at hC
    have h : C < 896 := by omega
    unfold hotZ bookOf
    rw [if_pos h, if_pos h]
    split_ifs <;> ring
  rw [show (768 : ℕ) = 16 * 48 by rfl, e, sum_marked (fun m => (cd R m).toNat) (hcd R)]
  unfold taken takenLast
  rw [show (56 : ℕ) = 48 + 8 by rfl, Finset.sum_range_add]
  ring

include hcd in
theorem sum_packed (a b : ℕ → ℤ) :
    ∑ C ∈ Finset.range 1024, hotZ cd R C * (if C < 896 then a C else b (C - 128))
      = taken (fun m => (cd R m).toNat) a + 16128 * takenLast (fun m => (cd R m).toNat) b := by
  rw [show (1024 : ℕ) = 16 * 56 + 16 * 8 by rfl, Finset.sum_range_add]
  congr 1
  · have e : ∑ C ∈ Finset.range (16 * 56), hotZ cd R C * (if C < 896 then a C else b (C - 128))
        = ∑ C ∈ Finset.range (16 * 56), (if (cd R (C / 16)).toNat = C % 16 then a C else 0) := by
      refine Finset.sum_congr rfl fun C hC => ?_
      rw [Finset.mem_range] at hC
      have h : C < 896 := by omega
      unfold hotZ bookOf
      rw [if_pos h, if_pos h, if_pos h]
      split_ifs <;> ring
    rw [e, sum_marked (fun m => (cd R m).toNat) (hcd R)]; rfl
  · have e : ∑ C ∈ Finset.range (16 * 8), hotZ cd R (16 * 56 + C) * (if 16 * 56 + C < 896 then a (16 * 56 + C) else b (16 * 56 + C - 128))
        = 16128 * ∑ C ∈ Finset.range (16 * 8), (if (fun m => (cd R (48 + m)).toNat) (C / 16) = C % 16 then (fun C => b (16 * 48 + C)) C else 0) := by
      rw [Finset.mul_sum]
      refine Finset.sum_congr rfl fun C hC => ?_
      have h : ¬ 16 * 56 + C < 896 := by omega
      unfold hotZ bookOf
      rw [if_neg h, if_neg h, if_neg h, show (16 * 56 + C) / 16 - 8 = 48 + C / 16 by omega, show (16 * 56 + C) % 16 = C % 16 by omega,
        show 16 * 56 + C - 128 = 16 * 48 + C by omega]
      dsimp only
      split_ifs <;> ring
    rw [e, sum_marked _ (fun m => hcd R (48 + m))]
    unfold takenLast
    congr 1
    refine Finset.sum_congr rfl fun m _ => ?_
    dsimp only
    rw [show 16 * 48 + (16 * m + (cd R (48 + m)).toNat) = 16 * (48 + m) + (cd R (48 + m)).toNat by ring]

end Sums

/-! ## Taking the packed quotient apart -/

theorem roundHalfEven_near (T : ℤ) (d : ℝ) (h1 : -(1 / 2) < d) (h2 : d < 1 / 2) : Ideal.roundHalfEven ((T : ℝ) + d) = T := by
  unfold Ideal.roundHalfEven
  by_cases hd : 0 ≤ d
  · have hf : ⌊(T : ℝ) + d⌋ = T := Int.floor_eq_iff.2 ⟨by linarith, by linarith⟩
    rw [hf]; dsimp only
    rw [if_pos (by linarith)]
  · have hf : ⌊(T : ℝ) + d⌋ = T - 1 := Int.floor_eq_iff.2 ⟨by push_cast; linarith, by push_cast; linarith⟩
    rw [hf]; dsimp only
    rw [if_neg (by push_cast; linarith), if_pos (by push_cast; linarith)]
    ring

theorem abs_sum_le (n : ℕ) (f : ℕ → ℤ) (h : ∀ m, -128 ≤ f m ∧ f m ≤ 127) :
    -(128 * n : ℤ) ≤ ∑ m ∈ Finset.range n, f m ∧ ∑ m ∈ Finset.range n, f m ≤ 128 * n := by
  induction n with
  | zero => simp
  | succ n ih => rw [Finset.sum_range_succ]; have := h n; push_cast; constructor <;> linarith [ih.1, ih.2, this.1, this.2]

theorem ofBits_inv : Ideal.ofBits .f32 948045857#32 = ((8521761 / 2 ^ 37 : ℝ) : EReal) := by
  simp [Ideal.ofBits, Ideal.ieee]
  rw [← EReal.coe_mul]; congr 1

theorem ofBits_big32 : Ideal.ofBits .f32 1182531584#32 = ((16128 : ℝ) : EReal) := by
  simp [Ideal.ofBits, Ideal.ieee]; rw [← EReal.coe_mul]; norm_num

/-- The packed sum rounds to the high part: the rest is less than half of 16128. -/
theorem round_packed (A T : ℤ) (hA : -7168 ≤ A ∧ A ≤ 7168) (hT : -1024 ≤ T ∧ T ≤ 1024) :
    Ideal.roundHalfEven (((A + 16128 * T : ℤ) : ℝ) * (8521761 / 2 ^ 37)) = T := by
  have e : ((A + 16128 * T : ℤ) : ℝ) * (8521761 / 2 ^ 37) = (T : ℝ) + ((A : ℝ) * (8521761 / 2 ^ 37) + (T : ℝ) * (7936 / 2 ^ 37)) := by
    push_cast; ring
  have a1 : (-7168 : ℝ) ≤ A := by exact_mod_cast hA.1
  have a2 : (A : ℝ) ≤ 7168 := by exact_mod_cast hA.2
  have t1 : (-1024 : ℝ) ≤ T := by exact_mod_cast hT.1
  have t2 : (T : ℝ) ≤ 1024 := by exact_mod_cast hT.2
  rw [e]
  exact roundHalfEven_near _ _ (by norm_num; linarith) (by norm_num; linarith)

/-! ## The two halves of a block of columns -/

section Halves
variable (lut : Vec Ideal S896x512 .i8) (lhs : Vec Ideal S256x1024 .bf16) (lhsMain : Vec Ideal S256x768 .bf16) (scale : Vec Ideal S1x512 .f32)
  (cd : ℕ → ℕ → BitVec 32) (hcd : ∀ R m, (cd R m).toNat < 16)

/-- Column `j` of the table, as integers. -/
def lutCol (lut : Vec Ideal S896x512 .i8) (j : Fin 512) (C : ℕ) : ℤ := if h : C < 896 then (lut (ix2 ⟨C, h⟩ j)).toInt else 0

theorem lutCol_bound (j : Fin 512) (C : ℕ) : -128 ≤ lutCol lut j C ∧ lutCol lut j C ≤ 127 := by
  unfold lutCol
  split
  · generalize lut (ix2 _ j) = v
    have h1 := BitVec.two_mul_toInt_lt (x := (v : BitVec 8))
    have h2 := BitVec.le_two_mul_toInt (x := (v : BitVec 8))
    norm_num at h1 h2; constructor <;> omega
  · omega

theorem pay1_apply (C : Fin 896) (j : Fin 512) : k0_pay1 (F := Ideal) lut (ix2 C j) = ((lutCol lut j C.val : ℝ) : EReal) := by
  unfold k0_pay1 lutCol
  rw [dif_pos C.isLt]
  rw [shapeCast_id]; rfl

theorem packedRhs_apply (C : Fin 1024) (j : Fin 256) :
    (concatenate S1024x256 0 [⟨S896x256, (extractStridedSlice S896x256 ![0, 0] (k0_pay1 (F := Ideal) lut) slices_S896x512_o0_0_S896x256 : FVec Ideal S896x256 .bf16)⟩,
        ⟨S128x256, (extractStridedSlice S128x256 ![768, 0] (k0_pay2 (F := Ideal) lut) slices_S896x256_o768_0_S128x256 : FVec Ideal S128x256 .bf16)⟩]
        concatenates_S896x256_S128x256_S1024x256_d0 : FVec Ideal S1024x256 .bf16) (ix2 C j)
      = (((if C.val < 896 then lutCol lut ⟨j.val, by omega⟩ C.val else lutCol lut ⟨256 + j.val, by omega⟩ (C.val - 128) : ℤ) : ℝ) : EReal) := by
  have hC := C.isLt
  by_cases h : C.val < 896
  · rw [if_pos h, concatenate_pair_apply_left (s₁ := S896x256) (s₂ := S128x256) 0 _ _ _ (ix2 C j) rfl (ix2 ⟨C.val, h⟩ j) (fun b => by
      match b with
      | ⟨0, _⟩ => rfl
      | ⟨1, _⟩ => rfl)]
    rw [← pay1_apply lut ⟨C.val, h⟩ ⟨j.val, by omega⟩]
    unfold extractStridedSlice
    refine congrArg (k0_pay1 lut) (funext fun a => Fin.ext ?_)
    match a with
    | ⟨0, _⟩ => show 0 + C.val = C.val; omega
    | ⟨1, _⟩ => show 0 + j.val = j.val; omega
  · rw [if_neg h, concatenate_pair_apply_right (s₁ := S896x256) (s₂ := S128x256) 0 _ _ _ (ix2 C j) rfl rfl (ix2 ⟨C.val - 896, by omega⟩ j) (fun b hb => by
      match b with
      | ⟨0, _⟩ => exact absurd rfl hb
      | ⟨1, _⟩ => rfl) (by show C.val - 896 + 896 = C.val; omega)]
    rw [← pay1_apply lut ⟨C.val - 128, by omega⟩ ⟨256 + j.val, by omega⟩]
    unfold k0_pay2 extractStridedSlice
    refine congrArg (k0_pay1 lut) (funext fun a => Fin.ext ?_)
    match a with
    | ⟨0, _⟩ => show 0 + (768 + (C.val - 896)) = C.val - 128; omega
    | ⟨1, _⟩ => show 256 + (0 + j.val) = 256 + j.val; omega

theorem sum_coe {n : ℕ} (f : Fin n → EReal) (g : ℕ → ℤ) (h : ∀ C : Fin n, f C = (((g C.val : ℤ) : ℝ) : EReal)) :
    ∑ C : Fin n, f C = (((∑ C ∈ Finset.range n, g C : ℤ) : ℝ) : EReal) := by
  rw [← Fin.sum_univ_eq_sum_range]
  have e : ∀ s : Finset (Fin n), ∑ C ∈ s, f C = (((∑ C ∈ s, g C.val : ℤ) : ℝ) : EReal) := by
    intro s
    induction s using Finset.induction_on with
    | empty => simp
    | insert a s ha ih => rw [Finset.sum_insert ha, Finset.sum_insert ha, ih, h a]; push_cast; rfl
  exact e _

include hcd in
theorem pay3_apply (R : Fin 256) (hl : ∀ C : Fin 1024, lhs (ix2 R C) = ((hotZ cd R.val C.val : ℝ) : EReal)) (j : Fin 256) :
    k0_pay3 (F := Ideal) lut lhs (ix2 R j)
      = (((taken (fun m => (cd R.val m).toNat) (lutCol lut ⟨j.val, by omega⟩) + 16128 * takenLast (fun m => (cd R.val m).toNat) (lutCol lut ⟨256 + j.val, by omega⟩) : ℤ) : ℝ) : EReal) := by
  rw [← sum_packed cd hcd R.val]
  unfold k0_pay3
  refine (Ideal.matmul_plain_apply (M := 256) (K := 1024) (N := 256) none lhs _ _ R j).trans ?_
  simp only [← ix2_eq_valueIdx]
  rw [show (constant S256x256 .f32 0#32 : FVec Ideal S256x256 .f32) (ix2 R j) = 0 from Ideal.ofBits_zero_f32, zero_add]
  refine sum_coe _ _ fun C => ?_
  rw [hl C, packedRhs_apply lut C j, ← EReal.coe_mul]
  push_cast; rfl

include hcd in
theorem pay4_apply (R : Fin 256) (hl : ∀ C : Fin 1024, lhs (ix2 R C) = ((hotZ cd R.val C.val : ℝ) : EReal)) (j : Fin 256) :
    k0_pay4 (F := Ideal) lut lhs (ix2 R j) = (((takenLast (fun m => (cd R.val m).toNat) (lutCol lut ⟨256 + j.val, by omega⟩) : ℤ) : ℝ) : EReal) := by
  have e : k0_pay4 (F := Ideal) lut lhs (ix2 R j) = Ideal.liftRound Ideal.roundHalfEven (k0_pay3 (F := Ideal) lut lhs (ix2 R j) * Ideal.ofBits .f32 948045857#32) := rfl
  rw [e, pay3_apply lut lhs cd hcd R hl j, ofBits_inv, ← EReal.coe_mul]
  show (((Ideal.roundHalfEven _ : ℤ) : ℝ) : EReal) = _
  rw [round_packed]
  · exact abs_sum_le 56 _ fun m => lutCol_bound lut _ _
  · exact abs_sum_le 8 _ fun m => lutCol_bound lut _ _

theorem scale_apply (off : ℕ) (h : S1x512.Slices ![0, off] S1x256) (R : Fin 256) (j : Fin 256) (hj : off + j.val < 512) :
    (broadcastTo S256x256 (extractStridedSlice S1x256 ![0, off] (k0_pay5 scale) h : FVec Ideal S1x256 .f32) broadcasts_S1x256_S256x256 : FVec Ideal S256x256 .f32) (ix2 R j)
      = scale (ix2 0 ⟨off + j.val, hj⟩) := by
  unfold k0_pay5
  rw [shapeCast_id]
  refine congrArg scale (funext fun a => Fin.ext ?_)
  match a with
  | ⟨0, _⟩ => rfl
  | ⟨1, _⟩ => rfl

include hcd in
theorem pay6_apply (R : Fin 256) (hl : ∀ C : Fin 1024, lhs (ix2 R C) = ((hotZ cd R.val C.val : ℝ) : EReal)) (j : Fin 256) :
    k0_pay6 (F := Ideal) lut lhs scale (ix2 R j)
      = (((taken (fun m => (cd R.val m).toNat) (lutCol lut ⟨j.val, by omega⟩) : ℤ) : ℝ) : EReal) * scale (ix2 0 ⟨j.val, by omega⟩) := by
  have e : k0_pay6 (F := Ideal) lut lhs scale (ix2 R j)
      = (k0_pay3 (F := Ideal) lut lhs (ix2 R j) - k0_pay4 (F := Ideal) lut lhs (ix2 R j) * Ideal.ofBits .f32 1182531584#32)
        * (broadcastTo S256x256 (extractStridedSlice S1x256 ![0, 0] (k0_pay5 scale) slices_S1x512_o0_0_S1x256 : FVec Ideal S1x256 .f32) broadcasts_S1x256_S256x256 : FVec Ideal S256x256 .f32) (ix2 R j) := rfl
  rw [e, scale_apply scale 0 _ R j (by omega), pay3_apply lut lhs cd hcd R hl j, pay4_apply lut lhs cd hcd R hl j, ofBits_big32, ← EReal.coe_mul, ← EReal.coe_sub]
  congr 2
  · push_cast; ring_nf
  · refine congrArg _ (Fin.ext ?_); show 0 + j.val = j.val; omega

include hcd in
theorem pay7_apply (R : Fin 256) (hl : ∀ C : Fin 1024, lhs (ix2 R C) = ((hotZ cd R.val C.val : ℝ) : EReal))
    (hm : ∀ C : Fin 768, lhsMain (ix2 R C) = ((hotZ cd R.val C.val : ℝ) : EReal)) (j : Fin 256) :
    k0_pay7 (F := Ideal) lut lhs lhsMain scale (ix2 R j)
      = (((taken (fun m => (cd R.val m).toNat) (lutCol lut ⟨256 + j.val, by omega⟩) : ℤ) : ℝ) : EReal) * scale (ix2 0 ⟨256 + j.val, by omega⟩) := by
  have e : k0_pay7 (F := Ideal) lut lhs lhsMain scale (ix2 R j)
      = ((matmul dot_S256x768_S768x256_S256x256_1_0_0_1_n_n none (φ₁ := .bf16) lhsMain
            (extractStridedSlice S768x256 ![0, 0] (k0_pay2 (F := Ideal) lut) slices_S896x256_o0_0_S768x256 : FVec Ideal S768x256 .bf16) (constant S256x256 .f32 0#32) : FVec Ideal S256x256 .f32) (ix2 R j)
          + k0_pay4 (F := Ideal) lut lhs (ix2 R j))
        * (broadcastTo S256x256 (extractStridedSlice S1x256 ![0, 256] (k0_pay5 scale) slices_S1x512_o0_256_S1x256 : FVec Ideal S1x256 .f32) broadcasts_S1x256_S256x256 : FVec Ideal S256x256 .f32) (ix2 R j) := rfl
  have em : (matmul dot_S256x768_S768x256_S256x256_1_0_0_1_n_n none (φ₁ := .bf16) lhsMain
            (extractStridedSlice S768x256 ![0, 0] (k0_pay2 (F := Ideal) lut) slices_S896x256_o0_0_S768x256 : FVec Ideal S768x256 .bf16) (constant S256x256 .f32 0#32) : FVec Ideal S256x256 .f32) (ix2 R j)
      = (((∑ C ∈ Finset.range 768, hotZ cd R.val C * lutCol lut ⟨256 + j.val, by omega⟩ C : ℤ) : ℝ) : EReal) := by
    refine (Ideal.matmul_plain_apply (M := 256) (K := 768) (N := 256) none lhsMain _ _ R j).trans ?_
    simp only [← ix2_eq_valueIdx]
    rw [show (constant S256x256 .f32 0#32 : FVec Ideal S256x256 .f32) (ix2 R j) = 0 from Ideal.ofBits_zero_f32, zero_add]
    refine sum_coe _ _ fun C => ?_
    have ep : (extractStridedSlice S768x256 ![0, 0] (k0_pay2 (F := Ideal) lut) slices_S896x256_o0_0_S768x256 : FVec Ideal S768x256 .bf16) (ix2 C j)
        = ((lutCol lut ⟨256 + j.val, by omega⟩ C.val : ℝ) : EReal) := by
      rw [← pay1_apply lut ⟨C.val, by omega⟩ ⟨256 + j.val, by omega⟩]
      unfold k0_pay2 extractStridedSlice
      refine congrArg (k0_pay1 lut) (funext fun a => Fin.ext ?_)
      match a with
      | ⟨0, _⟩ => show 0 + (0 + C.val) = C.val; omega
      | ⟨1, _⟩ => show 256 + (0 + j.val) = 256 + j.val; omega
    rw [hm C, ep, ← EReal.coe_mul]
    push_cast; rfl
  rw [e, em, scale_apply scale 256 _ R j (by omega), pay4_apply lut lhs cd hcd R hl j, sum_main cd hcd R.val, ← EReal.coe_add]
  congr 2
  push_cast; ring

end Halves

end Cert.KernelIdeal.Gen
end
-- ==== Proof.Reference.lean ====
/- What the reference computes: the four tested words, the threshold each level reads, the leaf, the codes. -/
module

public import proofs.«01_k».proof.Proof.Gen.ReferenceIdeal.Read
public import proofs.«01_k».proof.Proof.Product
public import Idealize.ShloMosaic.Lib.Pointwise.Index
public import Idealize.ShloMosaic.Lib.TwoAxisContraction

@[expose] public section

set_option maxRecDepth 16384

noncomputable section

namespace Cert.ReferenceIdeal.Meaning

open Cert.ReferenceIdeal Cert.ReferenceIdeal.Gen Cert.ReferenceIdeal.Read Idealize.ShloMosaic Idealize.ShloMosaic.TcCoe Idealize.ShloMosaic.StableHlo
open Cert.KernelIdeal.Gen (beyond treeBit1 treeBit2 treeBit3 leafOf tree codeAt codeAt_lt taken sum_marked sum_coe)

variable (x0 : Vec Ideal S5x2048x7168 .bf16) (x1 : Vec Ideal S56x4 .i32) (x2 : Vec Ideal S56x15 .bf16) (x3 : Vec Ideal S56x16x18432 .i8) (x4 : Vec Ideal S18432 .f32)

/-- A row of the input, by column number. -/
def rowOf (b : Fin 5) (s : Fin 2048) (C : ℕ) : EReal := if h : C < 7168 then x0 (ix3 b s ⟨C, h⟩) else 0

/-- The column a codebook's level tests. -/
def colOf (m : Fin 56) (l : ℕ) : ℕ := if h : l < 4 then (x1 (ix2 m ⟨l, h⟩)).toNat else 0

/-- A codebook's threshold, by node number. -/
def thrOf (m : Fin 56) (k : ℕ) : EReal := if h : k < 15 then x2 (ix2 m ⟨k, h⟩) else 0

/-- The leaf of a row in a codebook. -/
def leafAt (b : Fin 5) (s : Fin 2048) (m : Fin 56) : BitVec 32 := codeAt (rowOf x0 b s) (colOf x1 m) (thrOf x2 m)

/-- Every tested column lies in its codebook's own block of the row. -/
def OwnBlock : Prop := ∀ (m : Fin 56) (l : Fin 4), 128 * m.val ≤ (x1 (ix2 m l)).toNat ∧ (x1 (ix2 m l)).toNat < 128 * m.val + 128

/-! ## Numbers read off words -/

theorem toInt_small (n : ℕ) (hn : n < 65536) : (BitVec.ofNat 32 n).toInt = n := by
  rw [BitVec.toInt_eq_toNat_of_lt] <;> rw [BitVec.toNat_ofNat, Nat.mod_eq_of_lt (by omega)]; omega

theorem ofNat_small (w : BitVec 32) : BitVec.ofNat 32 w.toNat = w := BitVec.eq_of_toNat_eq (by rw [BitVec.toNat_ofNat, Nat.mod_eq_of_lt w.isLt])

/-- A number that is not negative stays under the rule that negative indices count from the end. -/
theorem wrap_word (w z : BitVec 32) (hw : w.toNat < 65536) : Scalar.select (IntOp.cmpi .slt w 0#32) z w = w := by
  have h : IntOp.cmpi .slt w 0#32 = 0#1 := by
    show BitVec.ofBool (BitVec.slt _ _) = 0#1
    have : BitVec.slt w 0#32 = false := by
      rw [← ofNat_small w, BitVec.slt, toInt_small _ hw]; simp
    rw [this]; rfl
  rw [h]; rfl

/-! ## The two gathers -/

theorem splitIndex (hs : OwnBlock x1) (i : S56x4x1.Idx) : val_main_v5 (F := Ideal) x1 i = x1 (ix2 (i 0) (i 1)) := by
  rw [val_main_v5_apply, val_main_v4_apply, val_main_v1_apply, val_main_v0_apply, val_main_c_apply]
  have e : idx_main_v5 i = ix2 (i 0) (i 1) := funext fun a => match a with | ⟨0, _⟩ => rfl | ⟨1, _⟩ => rfl
  rw [e]
  have h := hs (i 0) (i 1)
  have h0 : (i 0).val < 56 := (i 0).isLt
  have h2 : (x1 (ix2 (i 0) (i 1))).toNat < 65536 := by have := h.2; omega
  exact wrap_word (x1 (ix2 (i 0) (i 1))) _ h2

theorem word (hs : OwnBlock x1) (b : Fin 5) (s : Fin 2048) (m : Fin 56) (l : Fin 4) :
    val_main_v6 (F := Ideal) x0 x1 (ix4 b s m l) = rowOf x0 b s (colOf x1 m l.val) := by
  have h := hs m l
  have hm := m.isLt
  have hc : colOf x1 m l.val = (x1 (ix2 m l)).toNat := dif_pos l.isLt
  have hlt : (x1 (ix2 m l)).toNat < 7168 := by omega
  unfold rowOf
  rw [hc, dif_pos hlt]
  unfold val_main_v6 Host.gather
  refine congrArg x0 (funext fun a => Fin.ext ?_)
  let D := gather_S5x2048x7168_S56x4x1_S5x2048x56x4_01_2_n_n_2_2_520481
  show D.start (ix4 b s m l) (val_main_v5 (F := Ideal) x1) a + D.batchCoord (ix4 b s m l) a + D.offCoord (ix4 b s m l) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · unfold GatherDims.start
    rw [dif_neg (show ¬ (0 : Fin 3) ∈ D.startIndexMap from (by decide : ¬ (0 : Fin 3) ∈ ([2] : List (Fin 3))))]
    exact (Nat.zero_add _).trans rfl
  · unfold GatherDims.start
    rw [dif_neg (show ¬ (1 : Fin 3) ∈ D.startIndexMap from (by decide : ¬ (1 : Fin 3) ∈ ([2] : List (Fin 3))))]
    exact (Nat.zero_add _).trans rfl
  · rw [GatherDims.offCoord_eq_zero _ _ _ (fun h => ((GatherDims.mem_sKept _ _).mp h).1 (List.mem_singleton.mpr rfl))]
    unfold GatherDims.start
    rw [dif_pos (show (2 : Fin 3) ∈ D.startIndexMap from List.mem_singleton.mpr rfl), splitIndex x1 hs]
    have e : ∀ k, (ix2 (D.siIdx (ix4 b s m l) k 0) (D.siIdx (ix4 b s m l) k 1) : S56x4.Idx) = ix2 m l := fun k =>
      funext fun a => match a with | ⟨0, _⟩ => rfl | ⟨1, _⟩ => rfl
    rw [e, BitVec.toInt_eq_toNat_of_lt (by omega), Int.toNat_natCast]
    show min _ (7168 - 1) + 0 + 0 = _
    rw [Nat.min_eq_left (by omega)]
    rfl

/-- The threshold at a codebook and a node number. -/
theorem threshold (A B : Vec Ideal S5x2048x56x1 .i32) (b : Fin 5) (s : Fin 2048) (m : Fin 56) (k : ℕ) (hk : k < 15)
    (hA : A (ix4 b s m 0) = BitVec.ofNat 32 m.val) (hB : B (ix4 b s m 0) = BitVec.ofNat 32 k) :
    Host.gather gather_S56x15_S5x2048x56x2_S5x2048x56_n_01_n_n_01_3_11 x2
      (concatenate S5x2048x56x2 3 [⟨S5x2048x56x1, A⟩, ⟨S5x2048x56x1, B⟩] concatenates_S5x2048x56x1_S5x2048x56x1_S5x2048x56x2_d3) (ix3 b s m) = thrOf x2 m k := by
  have hm := m.isLt
  unfold thrOf
  rw [dif_pos hk]
  unfold Host.gather
  refine congrArg x2 (funext fun a => Fin.ext ?_)
  let D := gather_S56x15_S5x2048x56x2_S5x2048x56_n_01_n_n_01_3_11
  let X : Vec Ideal S5x2048x56x2 .i32 := concatenate S5x2048x56x2 3 [⟨S5x2048x56x1, A⟩, ⟨S5x2048x56x1, B⟩] concatenates_S5x2048x56x1_S5x2048x56x1_S5x2048x56x2_d3
  have hX0 : X (ix4 b s m 0) = BitVec.ofNat 32 m.val :=
    (concatenate_pair_apply_left (t := S5x2048x56x2) 3 A B _ _ rfl (ix4 b s m 0) (fun a => match a with | ⟨0, _⟩ => rfl | ⟨1, _⟩ => rfl | ⟨2, _⟩ => rfl | ⟨3, _⟩ => rfl)).trans hA
  have hX1 : X (ix4 b s m 1) = BitVec.ofNat 32 k :=
    (concatenate_pair_apply_right (t := S5x2048x56x2) 3 A B _ _ rfl rfl (ix4 b s m 0) (fun a ha => match a with | ⟨0, _⟩ => rfl | ⟨1, _⟩ => rfl | ⟨2, _⟩ => rfl | ⟨3, _⟩ => absurd rfl ha) rfl).trans hB
  show D.start (ix3 b s m) X a + D.batchCoord (ix3 b s m) a + D.offCoord (ix3 b s m) a = _
  rw [GatherDims.batchCoord_eq_zero _ _ _ List.not_mem_nil]
  have h01 : a = 0 ∨ a = 1 := by
    match a with
    | ⟨0, _⟩ => exact Or.inl rfl
    | ⟨1, _⟩ => exact Or.inr rfl
  have ha : a ∈ D.startIndexMap := by
    rcases h01 with rfl | rfl
    · exact List.mem_cons_self
    · exact List.mem_cons_of_mem _ List.mem_cons_self
  rw [GatherDims.offCoord_eq_zero _ _ _ (fun h => ((GatherDims.mem_sKept _ _).mp h).1 ha)]
  unfold GatherDims.start
  rw [dif_pos ha]
  rcases h01 with rfl | rfl
  · have e : D.siIdx (ix3 b s m) ⟨D.startIndexMap.idxOf 0, List.idxOf_lt_length_iff.2 ha⟩ = ix4 b s m 0 :=
      funext fun a => match a with | ⟨0, _⟩ => rfl | ⟨1, _⟩ => rfl | ⟨2, _⟩ => rfl | ⟨3, _⟩ => rfl
    refine (congrArg (fun z : BitVec 32 => min z.toInt.toNat (56 - 1) + 0 + 0) ((congrArg X e).trans hX0)).trans ?_
    show min (BitVec.ofNat 32 m.val).toInt.toNat (56 - 1) + 0 + 0 = m.val
    rw [toInt_small _ (by omega), Int.toNat_natCast]; omega
  · have e : D.siIdx (ix3 b s m) ⟨D.startIndexMap.idxOf 1, List.idxOf_lt_length_iff.2 ha⟩ = ix4 b s m 1 :=
      funext fun a => match a with | ⟨0, _⟩ => rfl | ⟨1, _⟩ => rfl | ⟨2, _⟩ => rfl | ⟨3, _⟩ => rfl
    refine (congrArg (fun z : BitVec 32 => min z.toInt.toNat (15 - 1) + 0 + 0) ((congrArg X e).trans hX1)).trans ?_
    show min (BitVec.ofNat 32 k).toInt.toNat (15 - 1) + 0 + 0 = k
    rw [toInt_small _ (by omega), Int.toNat_natCast]; omega

end Cert.ReferenceIdeal.Meaning

end
-- ==== Proof.OwnBlock.lean ====
/- What the precondition says of the tested columns. -/
module

public import proofs.«01_k».proof.Defs
public import proofs.«01_k».proof.Proof.Reference
public import Idealize.ShloMosaic.Lib.ReduceAll
public import Idealize.ShloMosaic.Lib.Pipeline.Value

@[expose] public section

set_option maxRecDepth 16384

noncomputable section

namespace Cert.Proof

open Idealize.ShloMosaic

/-- The shape relations the precondition's operations take. -/
theorem pre_facts : Cert.Pre_splits_in_own_block.Facts where
  bcast_S56_S56x1_0 := by decide
  bcast_S_S56x1 := by decide
  bcast_S56x1_S56x4_0_1 := by decide
  reducesTo_S56x4_S_d0_1 := by decide
  h_S_ := by decide

/-- A word at least `128 m` and below `128 m + 128`, read signed, has those bounds as a number. -/
theorem word_bounds (w : BitVec 32) (m : ℕ) (hm : m < 56)
    (h1 : IntOp.cmpi .sge w (BitVec.ofNat 32 m * 128#32) = 1#1) (h2 : IntOp.cmpi .slt w (BitVec.ofNat 32 m * 128#32 + 128#32) = 1#1) :
    128 * m ≤ w.toNat ∧ w.toNat < 128 * m + 128 := by
  have e : BitVec.ofNat 32 m * 128#32 = BitVec.ofNat 32 (m * 128) := by rw [← BitVec.ofNat_mul]
  have e' : BitVec.ofNat 32 (m * 128) + 128#32 = BitVec.ofNat 32 (m * 128 + 128) := by rw [← BitVec.ofNat_add]
  rw [IntOp.cmpi_sge, e, Cert.ReferenceIdeal.Meaning.toInt_small _ (by omega)] at h1
  rw [IntOp.cmpi_slt, e, e', Cert.ReferenceIdeal.Meaning.toInt_small _ (by omega)] at h2
  rw [BitVec.toInt_eq_toNat_cond] at h1 h2
  have := w.isLt
  split at h1 <;> omega

/-- What the precondition says, word by word. -/
theorem own_block [Cert.Pre_splits_in_own_block.Facts]
    (x0 : FVec Ideal Cert.Pre_splits_in_own_block.S5x2048x7168 .bf16) (x1 : IVec Cert.Pre_splits_in_own_block.S56x4 32)
    (x2 : FVec Ideal Cert.Pre_splits_in_own_block.S56x15 .bf16) (x3 : IVec Cert.Pre_splits_in_own_block.S56x16x18432 8)
    (x4 : FVec Ideal Cert.Pre_splits_in_own_block.S18432 .f32)
    (j : Cert.Pre_splits_in_own_block.S_.Idx) (h : Cert.Pre_splits_in_own_block.fn (F := Ideal) x0 x1 x2 x3 x4 j = 1#1) (m : Fin 56) (l : Fin 4) :
    128 * m.val ≤ (x1 (ix2 m l)).toNat ∧ (x1 (ix2 m l)).toNat < 128 * m.val + 128 := by
  unfold Cert.Pre_splits_in_own_block.fn at h
  dsimp only at h
  have h1 := Host.reduce_andi_all _ _ _ _ j h (ix2 m l)
  have hbase : ∀ q : Fin 56, broadcastInDim Cert.Pre_splits_in_own_block.S56x1 ![0] Cert.Pre_splits_in_own_block.Facts.bcast_S56_S56x1_0 (iotaInDim Cert.Pre_splits_in_own_block.S56 32 0) (ix2 q 0) = BitVec.ofNat 32 q.val := by
    intro q
    exact broadcastInDim_apply _ _ _ _ (ix1 q) (fun a => match a with | ⟨0, _⟩ => rfl)
  have hrow : ∀ y : IVec Cert.Pre_splits_in_own_block.S56x1 32,
      broadcastInDim Cert.Pre_splits_in_own_block.S56x4 ![0, 1] Cert.Pre_splits_in_own_block.Facts.bcast_S56x1_S56x4_0_1 y (ix2 m l) = y (ix2 m 0) := by
    intro y
    exact broadcastInDim_apply _ _ _ _ (ix2 m 0) (fun a => match a with | ⟨0, _⟩ => rfl | ⟨1, _⟩ => rfl)
  have hc : ∀ i, broadcastInDim Cert.Pre_splits_in_own_block.S56x1 ![] Cert.Pre_splits_in_own_block.Facts.bcast_S_S56x1 (constantI Cert.Pre_splits_in_own_block.S_ 32 128#32) i = 128#32 := fun i => rfl
  have h2 := IntOp.andi_eq_one.1 h1
  refine word_bounds _ _ m.isLt ?_ ?_
  · have h3 := h2.1
    rw [cmpi, hrow] at h3
    rw [← hbase m]
    exact h3
  · have h3 := h2.2
    rw [cmpi, hrow] at h3
    rw [← hbase m]
    exact h3

end Cert.Proof

end
-- ==== Proof.Frames.lean ====
/- The frames of the three programs, and what the one rewriting rule of the idealized kernel asks. -/
module

public import proofs.«01_k».proof.Defs
public import Idealize.ShloMosaic.Lib.Bf16Pair
public import proofs.«01_k».proof.Proof.KFrame
public import proofs.«01_k».proof.Proof.OwnBlock
public import proofs.«01_k».proof.Proof.KIFrame
public import proofs.«01_k».proof.Proof.Gen.ReferenceIdeal
public import proofs.«01_k».proof.Proof.Gen.ReferenceIdeal.Run

@[expose] public section

noncomputable section

namespace Cert.Proof

open Idealize.ShloMosaic Idealize.SL.Sem

/-- The kernel at machine floats terminates without a fault and leaves its arguments unchanged. -/
theorem frame_kernel : Cert.quiescent_Kernel (hKernel := Cert.Kernel.Gen.facts) :=
  fun m ρ _ => Cert.Kernel.Gen.frame m ρ

/-- The same for the idealized kernel at exact values. -/
theorem frame_kernelIdeal : Cert.quiescent_KernelIdeal (hKernelIdeal := Cert.KernelIdeal.Gen.facts) :=
  fun m ρ _ => Cert.KernelIdeal.Gen.frame m ρ

/-- The same for the reference at exact values. -/
theorem frame_referenceIdeal : Cert.quiescent_ReferenceIdeal (hReferenceIdeal := Cert.ReferenceIdeal.Gen.facts) :=
  fun m ρ _ =>
    (θ_run Cert.ReferenceIdeal.defs _ _).mono
      (fun r h => ⟨fun c => (h c).2.2, Idealize.ShloMosaic.sem_eq_zero_of_no_sems (by decide) r.2⟩)
      (Cert.ReferenceIdeal.Value.run (F := Ideal) m ρ)

/-- The idealized kernel's frame under the precondition: the frame holds without it. -/
theorem frame_kernelIdeal_pre : Cert.quiescent_KernelIdeal_pre_splits_in_own_block (hKernelIdeal := Cert.KernelIdeal.Gen.facts) (hPre_splits_in_own_block := pre_facts) :=
  fun m ρ _ => frame_kernelIdeal m ρ trivial

/-- The same for the reference. -/
theorem frame_referenceIdeal_pre : Cert.quiescent_ReferenceIdeal_pre_splits_in_own_block (hReferenceIdeal := Cert.ReferenceIdeal.Gen.facts) (hPre_splits_in_own_block := pre_facts) :=
  fun m ρ _ => frame_referenceIdeal m ρ trivial

/-- What the rule that splits a 32-bit word into its two bf16 halves asks of this program. -/
theorem preserves : Cert.preserves_Kernel_KernelIdeal :=
  ⟨IdealRules.bf16_pair.statement _ _, IdealRules.bf16_pair.packStatement _⟩

end Cert.Proof

end
-- ==== Proof.Loop2.lean ====
/-
The second loop: each of its thirty-six trips writes 512 columns of the product, and together they cover the block.
-/
module

public import proofs.«01_k».proof.Proof.Product

@[expose] public section

set_option maxRecDepth 16384

noncomputable section

namespace Cert.KernelIdeal.Gen

open Idealize.ShloMosaic Idealize.ShloMosaic.TcCoe Idealize.ShloMosaic.Tactic
open Facts

theorem colOff_val : ∀ k : Fin k0_t2_loop.trips, k0_off66 k 1 = 512 * k.val ∧ k0_off67 k 1 = 512 * k.val ∧ k0_off68 k 1 = 512 * k.val ∧ k0_off69 k 1 = 512 * k.val + 256 := by decide

/-- Column `d` of the whole table, as integers. -/
def tableCol (Lut : S896x18432.Idx → BitVec 8) (d : ℕ) (C : ℕ) : ℤ :=
  if h : C < 896 ∧ d < 18432 then (Lut (ix2 ⟨C, h.1⟩ ⟨d, h.2⟩)).toInt else 0

/-- A column's scale. -/
def scaleOf (sc : S1x18432.Idx → EReal) (d : ℕ) : EReal := if h : d < 18432 then sc (ix2 0 ⟨d, h⟩) else 0

/-- One block of the product: what a row's leaves take from a column, times the column's scale. -/
def prodAt (cd : ℕ → ℕ → BitVec 32) (Lut : S896x18432.Idx → BitVec 8) (sc : S1x18432.Idx → EReal) (y : S256x18432.Idx) : EReal :=
  (((taken (fun m => (cd (y 0).val m).toNat) (tableCol Lut (y 1).val) : ℤ) : ℝ) : EReal) * scaleOf sc (y 1).val

variable (𝒱 : Variants) (c : Dev nD) (bd : Option 𝒱.V) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole)
variable (X_arg4 : BufTy.Contents (Elt Ideal) arg4.view.ty) (X_arg5 : BufTy.Contents (Elt Ideal) arg5.view.ty) (X_arg10 : BufTy.Contents (Elt Ideal) arg10.view.ty)

theorem trip_cols (k : Fin k0_t2_loop.trips) : (trip_k0_t2 (F := Ideal) 𝒱 c bd i arg1 harg1 arg2 harg2 arg3 harg3 arg4 harg4 arg5 harg5 arg6 harg6 arg7 harg7 arg8 harg8 arg9 harg9 arg10 harg10 arg11 harg11 X_arg4 X_arg5 X_arg10 k).1 =
    [⟨Rect.unit (s := S256x18432) (k0_off69 k) S256x256.size (k0_off69_inb k),
        k0_pay7 (View.readAt (Elt Ideal) arg4.view (Rect.unit (s := S896x18432) (k0_off66 k) S896x512.size (k0_off66_inb k)).toLoadRect X_arg4)
          (View.readAt (Elt Ideal) arg10.view (Rect.unit (s := S256x1024) ![0, 0] S256x1024.size inb_S256x1024_S256x1024_0_0).toLoadRect X_arg10)
          (View.readAt (Elt Ideal) arg10.view (Rect.unit (s := S256x1024) ![0, 0] S256x768.size inb_S256x1024_S256x768_0_0).toLoadRect X_arg10)
          (View.readAt (Elt Ideal) arg5.view (Rect.unit (s := S1x18432) (k0_off67 k) S1x512.size (k0_off67_inb k)).toLoadRect X_arg5)⟩,
      ⟨Rect.unit (s := S256x18432) (k0_off68 k) S256x256.size (k0_off68_inb k),
        k0_pay6 (View.readAt (Elt Ideal) arg4.view (Rect.unit (s := S896x18432) (k0_off66 k) S896x512.size (k0_off66_inb k)).toLoadRect X_arg4)
          (View.readAt (Elt Ideal) arg10.view (Rect.unit (s := S256x1024) ![0, 0] S256x1024.size inb_S256x1024_S256x1024_0_0).toLoadRect X_arg10)
          (View.readAt (Elt Ideal) arg5.view (Rect.unit (s := S1x18432) (k0_off67 k) S1x512.size (k0_off67_inb k)).toLoadRect X_arg5)⟩] := by
  unfold trip_k0_t2; rfl

theorem mem_pbCols (n : ℕ) (hn : n ≤ 36) (p : View.Piece (Elt Ideal) S256x18432 .bf16) :
    p ∈ (pb_k0_t2 (F := Ideal) 𝒱 c bd i arg1 harg1 arg2 harg2 arg3 harg3 arg4 harg4 arg5 harg5 arg6 harg6 arg7 harg7 arg8 harg8 arg9 harg9 arg10 harg10 arg11 harg11 X_arg4 X_arg5 X_arg10 n)
      ↔ ∃ k : Fin k0_t2_loop.trips, k.val < n ∧ p ∈ (trip_k0_t2 (F := Ideal) 𝒱 c bd i arg1 harg1 arg2 harg2 arg3 harg3 arg4 harg4 arg5 harg5 arg6 harg6 arg7 harg7 arg8 harg8 arg9 harg9 arg10 harg10 arg11 harg11 X_arg4 X_arg5 X_arg10 k).1 := by
  induction n with
  | zero => exact ⟨fun h => by simp [pb_k0_t2] at h, fun ⟨k, hk, _⟩ => absurd hk (by omega)⟩
  | succ n ih =>
    have hs := pb_k0_t2_succ (F := Ideal) 𝒱 c bd i arg1 harg1 arg2 harg2 arg3 harg3 arg4 harg4 arg5 harg5 arg6 harg6 arg7 harg7 arg8 harg8 arg9 harg9 arg10 harg10 arg11 harg11 X_arg4 X_arg5 X_arg10 (⟨n, by show n < 36; omega⟩ : Fin k0_t2_loop.trips)
    rw [show n + 1 = (⟨n, by show n < 36; omega⟩ : Fin k0_t2_loop.trips).val + 1 from rfl, hs]
    show p ∈ _ ++ _ ↔ _
    rw [List.mem_append]
    constructor
    · rintro (h | h)
      · exact ⟨_, Nat.lt_succ_self _, h⟩
      · obtain ⟨k, hk, hp⟩ := (ih (by omega)).1 h
        exact ⟨k, Nat.lt_succ_of_lt hk, hp⟩
    · rintro ⟨k, hk, hp⟩
      by_cases e : k.val = n
      · exact Or.inl ((show k = ⟨n, by show n < 36; omega⟩ from Fin.ext e) ▸ hp)
      · exact Or.inr ((ih (by omega)).2 ⟨k, by have hk : k.val < n + 1 := hk; omega, hp⟩)

section Reads
variable (cd : ℕ → ℕ → BitVec 32) (hcd : ∀ R m, (cd R m).toNat < 16) (Lut : S896x18432.Idx → BitVec 8) (sc : S1x18432.Idx → EReal)
  (hLut : ∀ y, (arg4.view.read (Elt Ideal) X_arg4) y = Lut y) (hsc : ∀ y, (arg5.view.read (Elt Ideal) X_arg5) y = sc y)
  (hhot : ∀ y, (arg10.view.read (Elt Ideal) X_arg10) y = hotAt cd y)

include hhot in
theorem hotRead (R : Fin 256) (C : Fin 1024) :
    View.readAt (Elt Ideal) arg10.view (Rect.unit (s := S256x1024) ![0, 0] S256x1024.size inb_S256x1024_S256x1024_0_0).toLoadRect X_arg10 (ix2 R C)
      = ((hotZ cd R.val C.val : ℝ) : EReal) := by
  rw [View.readAt_eq_ld]
  refine (View.ld_unit_apply_of _ _ _ _ _ (ix2 R C) fun a => ?_).trans ((hhot _).trans (hotAt_eq cd _))
  match a with
  | ⟨0, _⟩ => show R.val = 0 + R.val; omega
  | ⟨1, _⟩ => show C.val = 0 + C.val; omega

include hhot in
theorem hotReadMain (R : Fin 256) (C : Fin 768) :
    View.readAt (Elt Ideal) arg10.view (Rect.unit (s := S256x1024) ![0, 0] S256x768.size inb_S256x1024_S256x768_0_0).toLoadRect X_arg10 (ix2 R C)
      = ((hotZ cd R.val C.val : ℝ) : EReal) := by
  rw [View.readAt_eq_ld]
  refine (View.ld_unit_apply_of _ _ _ _ _ (ix2 R ⟨C.val, by omega⟩) fun a => ?_).trans ((hhot _).trans (hotAt_eq cd _))
  match a with
  | ⟨0, _⟩ => show R.val = 0 + R.val; omega
  | ⟨1, _⟩ => show C.val = 0 + C.val; omega

include hLut in
theorem lutRead (k : Fin k0_t2_loop.trips) (j : Fin 512) :
    lutCol (View.readAt (Elt Ideal) arg4.view (Rect.unit (s := S896x18432) (k0_off66 k) S896x512.size (k0_off66_inb k)).toLoadRect X_arg4) j
      = tableCol Lut (512 * k.val + j.val) := by
  have hk : k.val < 36 := k.isLt
  funext C
  unfold lutCol tableCol
  by_cases h : C < 896
  · rw [dif_pos h, dif_pos ⟨h, by omega⟩, ← hLut]
    refine congrArg BitVec.toInt ?_
    rw [View.readAt_eq_ld]
    refine View.ld_unit_apply_of _ _ _ _ _ _ fun a => ?_
    match a with
    | ⟨0, _⟩ => show C = 0 + C; omega
    | ⟨1, _⟩ => show 512 * k.val + j.val = k0_off66 k 1 + j.val; rw [(colOff_val k).1]
  · rw [dif_neg h, dif_neg (fun e => h e.1)]

include hsc in
theorem scaleRead (k : Fin k0_t2_loop.trips) (j : Fin 512) :
    View.readAt (Elt Ideal) arg5.view (Rect.unit (s := S1x18432) (k0_off67 k) S1x512.size (k0_off67_inb k)).toLoadRect X_arg5 (ix2 0 j)
      = scaleOf sc (512 * k.val + j.val) := by
  have hk : k.val < 36 := k.isLt
  unfold scaleOf
  rw [dif_pos (show 512 * k.val + j.val < 18432 by omega), ← hsc, View.readAt_eq_ld]
  refine View.ld_unit_apply_of _ _ _ _ _ _ fun a => ?_
  match a with
  | ⟨0, _⟩ => rfl
  | ⟨1, _⟩ => show 512 * k.val + j.val = k0_off67 k 1 + j.val; rw [(colOff_val k).2.1]

include hcd hLut hsc hhot in
theorem cols_piece6 (k : Fin k0_t2_loop.trips) (x : S256x256.Idx) :
    k0_pay6 (F := Ideal) (View.readAt (Elt Ideal) arg4.view (Rect.unit (s := S896x18432) (k0_off66 k) S896x512.size (k0_off66_inb k)).toLoadRect X_arg4)
          (View.readAt (Elt Ideal) arg10.view (Rect.unit (s := S256x1024) ![0, 0] S256x1024.size inb_S256x1024_S256x1024_0_0).toLoadRect X_arg10)
          (View.readAt (Elt Ideal) arg5.view (Rect.unit (s := S1x18432) (k0_off67 k) S1x512.size (k0_off67_inb k)).toLoadRect X_arg5) x
      = prodAt cd Lut sc ((Rect.unit (s := S256x18432) (k0_off68 k) S256x256.size (k0_off68_inb k)).emb x) := by
  have e0 : (((Rect.unit (s := S256x18432) (k0_off68 k) S256x256.size (k0_off68_inb k)).emb x) 0).val = (x 0).val := by
    rw [ValueKit.rect_emb_unit_val]; show 0 + _ = _; rw [Nat.zero_add]
  have e1 : (((Rect.unit (s := S256x18432) (k0_off68 k) S256x256.size (k0_off68_inb k)).emb x) 1).val = 512 * k.val + (x 1).val := by
    rw [ValueKit.rect_emb_unit_val, (colOff_val k).2.2.1]
  have key := pay6_apply (View.readAt (Elt Ideal) arg4.view (Rect.unit (s := S896x18432) (k0_off66 k) S896x512.size (k0_off66_inb k)).toLoadRect X_arg4)
    (View.readAt (Elt Ideal) arg10.view (Rect.unit (s := S256x1024) ![0, 0] S256x1024.size inb_S256x1024_S256x1024_0_0).toLoadRect X_arg10)
    (View.readAt (Elt Ideal) arg5.view (Rect.unit (s := S1x18432) (k0_off67 k) S1x512.size (k0_off67_inb k)).toLoadRect X_arg5)
    cd hcd (x 0) (fun C => hotRead arg10 X_arg10 cd hhot (x 0) C) (x 1)
  rw [lutRead arg4 X_arg4 Lut hLut, scaleRead arg5 X_arg5 sc hsc] at key
  unfold prodAt
  rw [e0, e1, ← key]
  exact congrArg _ (ix2_eta x).symm

include hcd hLut hsc hhot in
theorem cols_piece7 (k : Fin k0_t2_loop.trips) (x : S256x256.Idx) :
    k0_pay7 (F := Ideal) (View.readAt (Elt Ideal) arg4.view (Rect.unit (s := S896x18432) (k0_off66 k) S896x512.size (k0_off66_inb k)).toLoadRect X_arg4)
          (View.readAt (Elt Ideal) arg10.view (Rect.unit (s := S256x1024) ![0, 0] S256x1024.size inb_S256x1024_S256x1024_0_0).toLoadRect X_arg10)
          (View.readAt (Elt Ideal) arg10.view (Rect.unit (s := S256x1024) ![0, 0] S256x768.size inb_S256x1024_S256x768_0_0).toLoadRect X_arg10)
          (View.readAt (Elt Ideal) arg5.view (Rect.unit (s := S1x18432) (k0_off67 k) S1x512.size (k0_off67_inb k)).toLoadRect X_arg5) x
      = prodAt cd Lut sc ((Rect.unit (s := S256x18432) (k0_off69 k) S256x256.size (k0_off69_inb k)).emb x) := by
  have e0 : (((Rect.unit (s := S256x18432) (k0_off69 k) S256x256.size (k0_off69_inb k)).emb x) 0).val = (x 0).val := by
    rw [ValueKit.rect_emb_unit_val]; show 0 + _ = _; rw [Nat.zero_add]
  have e1 : (((Rect.unit (s := S256x18432) (k0_off69 k) S256x256.size (k0_off69_inb k)).emb x) 1).val = 512 * k.val + (256 + (x 1).val) := by
    rw [ValueKit.rect_emb_unit_val, (colOff_val k).2.2.2, Nat.add_assoc]
  have key := pay7_apply (View.readAt (Elt Ideal) arg4.view (Rect.unit (s := S896x18432) (k0_off66 k) S896x512.size (k0_off66_inb k)).toLoadRect X_arg4)
    (View.readAt (Elt Ideal) arg10.view (Rect.unit (s := S256x1024) ![0, 0] S256x1024.size inb_S256x1024_S256x1024_0_0).toLoadRect X_arg10)
    (View.readAt (Elt Ideal) arg10.view (Rect.unit (s := S256x1024) ![0, 0] S256x768.size inb_S256x1024_S256x768_0_0).toLoadRect X_arg10)
    (View.readAt (Elt Ideal) arg5.view (Rect.unit (s := S1x18432) (k0_off67 k) S1x512.size (k0_off67_inb k)).toLoadRect X_arg5)
    cd hcd (x 0) (fun C => hotRead arg10 X_arg10 cd hhot (x 0) C) (fun C => hotReadMain arg10 X_arg10 cd hhot (x 0) C) (x 1)
  rw [lutRead arg4 X_arg4 Lut hLut, scaleRead arg5 X_arg5 sc hsc] at key
  unfold prodAt
  rw [e0, e1, ← key]
  exact congrArg _ (ix2_eta x).symm

include hcd hLut hsc hhot in
/-- What the second loop leaves in its block of the product. -/
theorem canon_cols (y : S256x18432.Idx) :
    View.canon (pb_k0_t2 (F := Ideal) 𝒱 c bd i arg1 harg1 arg2 harg2 arg3 harg3 arg4 harg4 arg5 harg5 arg6 harg6 arg7 harg7 arg8 harg8 arg9 harg9 arg10 harg10 arg11 harg11 X_arg4 X_arg5 X_arg10 36) y = prodAt cd Lut sc y := by
  refine View.canon_apply_of_pieces (Val := Elt Ideal) (e := .bf16) (prodAt cd Lut sc) _ (fun p hp => ?_) y ?_
  · obtain ⟨k, hk, hp⟩ := (mem_pbCols 𝒱 c bd i arg1 harg1 arg2 harg2 arg3 harg3 arg4 harg4 arg5 harg5 arg6 harg6 arg7 harg7 arg8 harg8 arg9 harg9 arg10 harg10 arg11 harg11 X_arg4 X_arg5 X_arg10 36 le_rfl p).1 hp
    have H : ∀ p ∈ (trip_k0_t2 (F := Ideal) 𝒱 c bd i arg1 harg1 arg2 harg2 arg3 harg3 arg4 harg4 arg5 harg5 arg6 harg6 arg7 harg7 arg8 harg8 arg9 harg9 arg10 harg10 arg11 harg11 X_arg4 X_arg5 X_arg10 k).1, ∀ x, p.2 x = prodAt cd Lut sc (p.1.emb x) := by
      rw [trip_cols]
      exact List.forall_mem_cons.2 ⟨fun x => cols_piece7 arg4 arg5 arg10 X_arg4 X_arg5 X_arg10 cd hcd Lut sc hLut hsc hhot k x,
        List.forall_mem_cons.2 ⟨fun x => cols_piece6 arg4 arg5 arg10 X_arg4 X_arg5 X_arg10 cd hcd Lut sc hLut hsc hhot k x, fun p hp => absurd hp List.not_mem_nil⟩⟩
    exact H p hp
  · have hy0 : (y 0).val < 256 := (y 0).isLt
    have hy1 : (y 1).val < 18432 := (y 1).isLt
    have hk : (y 1).val / 512 < 36 := by omega
    have hv := colOff_val ⟨(y 1).val / 512, hk⟩
    by_cases h : (y 1).val % 512 < 256
    · refine ⟨_, (mem_pbCols 𝒱 c bd i arg1 harg1 arg2 harg2 arg3 harg3 arg4 harg4 arg5 harg5 arg6 harg6 arg7 harg7 arg8 harg8 arg9 harg9 arg10 harg10 arg11 harg11 X_arg4 X_arg5 X_arg10 36 le_rfl _).2 ⟨⟨(y 1).val / 512, hk⟩, hk, by rw [trip_cols]; exact List.mem_cons_of_mem _ (List.mem_cons_self ..)⟩, ?_⟩
      refine mem_unit _ _ (k0_off68_inb _) _ fun a => ?_
      match a with
      | ⟨0, _⟩ => show 0 ≤ (y 0).val ∧ (y 0).val < 0 + 256; omega
      | ⟨1, _⟩ => show k0_off68 _ 1 ≤ (y 1).val ∧ (y 1).val < k0_off68 _ 1 + 256; rw [hv.2.2.1]; dsimp only; omega
    · refine ⟨_, (mem_pbCols 𝒱 c bd i arg1 harg1 arg2 harg2 arg3 harg3 arg4 harg4 arg5 harg5 arg6 harg6 arg7 harg7 arg8 harg8 arg9 harg9 arg10 harg10 arg11 harg11 X_arg4 X_arg5 X_arg10 36 le_rfl _).2 ⟨⟨(y 1).val / 512, hk⟩, hk, by rw [trip_cols]; exact List.mem_cons_self ..⟩, ?_⟩
      refine mem_unit _ _ (k0_off69_inb _) _ fun a => ?_
      match a with
      | ⟨0, _⟩ => show 0 ≤ (y 0).val ∧ (y 0).val < 0 + 256; omega
      | ⟨1, _⟩ => show k0_off69 _ 1 ≤ (y 1).val ∧ (y 1).val < k0_off69 _ 1 + 256; rw [hv.2.2.2]; dsimp only; omega

end Reads

end Cert.KernelIdeal.Gen
end
-- ==== Proof.Codes.lean ====
/-
The block of codes: the packed leaves are transposed, unpacked and narrowed to bytes, one for each row and codebook.
-/
module

public import proofs.«01_k».proof.Proof.Loop2

@[expose] public section

set_option maxRecDepth 16384

noncomputable section

namespace Cert.KernelIdeal.Gen

open Idealize.ShloMosaic Idealize.ShloMosaic.TcCoe Idealize.ShloMosaic.Tactic
open Facts

/-- The place of a row's packed leaf in the second half of the block: half the lane, plus 64. -/
def lanesHi : IVec S56x128 32 :=
  have v7 := iota Kind.tc S56x128 32 [1] iota_S56x128_d1_w32
  have v92 := addi (select (andi (cmpi CmpIPredicate.ne (k0_pay623 v7) k0_pay624) (cmpi CmpIPredicate.ne (remsi v7 (broadcast S56x128 2#32)) (broadcast S56x128 0#32)))
    (subi (k0_pay622 v7) (broadcast S56x128 1#32)) (k0_pay622 v7)) (broadcast S56x128 64#32)
  select (cmpi CmpIPredicate.slt v92 (broadcast S56x128 0#32)) (addi v92 (broadcast S56x128 128#32)) v92

theorem lanesHi_apply (m : Fin 56) (l : Fin 128) : lanesHi (ix2 m l) = BitVec.ofNat 32 (64 + l.val / 2) := by
  have h : ∀ l : Fin 128, lanesHi (ix2 (0 : Fin 56) l) = BitVec.ofNat 32 (64 + l.val / 2) := by decide
  exact h l

theorem lanesLo_apply (m : Fin 56) (l : Fin 128) : k0_pay620 (ix2 m l) = BitVec.ofNat 32 (l.val / 2) := by
  have h : ∀ l : Fin 128, k0_pay620 (ix2 (0 : Fin 56) l) = BitVec.ofNat 32 (l.val / 2) := by decide
  exact h l

theorem pay625_eq (w v7 : IVec S56x128 32) (hv : v7 = iota Kind.tc S56x128 32 [1] iota_S56x128_d1_w32) :
    k0_pay625 w v7 2#32 (k0_pay622 v7) (k0_pay623 v7) k0_pay624 = k0_pay621 w v7 lanesHi := by
  subst hv; rfl

/-- Which of the two packed leaves a lane takes, as a shift. -/
def laneShift : IVec S56x128 32 :=
  have v7 := iota Kind.tc S56x128 32 [1] iota_S56x128_d1_w32
  have v43 := Scalar.select (Scalar.cmpi CmpIPredicate.eq 2#32 0#32) 1#32 2#32
  have v45 := remsi v7 (broadcast S56x128 v43)
  have v53 := xori (cmpi CmpIPredicate.slt v45 (broadcast S56x128 0#32)) (broadcastTo S56x128 (broadcast S56x128 (Scalar.cmpi CmpIPredicate.slt v43 0#32)) broadcasts_S56x128_S56x128)
  muli (broadcast S56x128 16#32) (select (andi v53 (cmpi CmpIPredicate.ne v45 (broadcast S56x128 0#32))) (addi v45 (broadcast S56x128 v43)) v45)

theorem laneShift_apply (m : Fin 56) (l : Fin 128) : laneShift (ix2 m l) = BitVec.ofNat 32 (16 * (l.val % 2)) := by
  have h : ∀ l : Fin 128, laneShift (ix2 (0 : Fin 56) l) = BitVec.ofNat 32 (16 * (l.val % 2)) := by decide
  exact h l

theorem unpack (e o : BitVec 32) (p : ℕ) (he : e.toNat < 16) (ho : o.toNat < 16) (hp : p < 2) :
    BitVec.setWidth 8 (IntOp.shrsi .vector (packLeaf e o) (BitVec.ofNat 32 (16 * p)) &&& 15#32) = BitVec.setWidth 8 (if p = 0 then e else o) := by
  have H : ∀ (e o : Fin 16) (p : Fin 2), BitVec.setWidth 8 (IntOp.shrsi .vector (packLeaf (BitVec.ofNat 32 e.val) (BitVec.ofNat 32 o.val)) (BitVec.ofNat 32 (16 * p.val)) &&& 15#32)
      = BitVec.setWidth 8 (if p.val = 0 then BitVec.ofNat 32 e.val else BitVec.ofNat 32 o.val) := by decide +kernel
  have := H ⟨e.toNat, he⟩ ⟨o.toNat, ho⟩ ⟨p, hp⟩
  simpa only [BitVec.ofNat_toNat, BitVec.setWidth_eq] using this

theorem pay621_apply (w : IVec S56x128 32) (t : IVec S56x128 32) (m : Fin 56) (l : Fin 128) (P : Fin 128) (ht : (t (ix2 m l)) = BitVec.ofNat 32 P.val)
    (e o : BitVec 32) (he : e.toNat < 16) (ho : o.toNat < 16) (hw : w (ix2 m P) = packLeaf e o) (z : Fin 1) :
    k0_pay621 w (iota Kind.tc S56x128 32 [1] iota_S56x128_d1_w32) t (ix3 z m l) = BitVec.setWidth 8 (if l.val % 2 = 0 then e else o) := by
  have e1 : k0_pay621 w (iota Kind.tc S56x128 32 [1] iota_S56x128_d1_w32) t
      = shapeCast S1x56x128 (trunci 8 (andi (shrsi (dynamicGather 1 w (shapeCast S56x128 (shapeCast S56x128x1 t shapeCasts_S56x128_S56x128x1) shapeCasts_S56x128x1_S56x128)) laneShift)
        (broadcast S56x128 15#32)) natLt_8_32 : IVec S56x128 8) shapeCasts_S56x128_S1x56x128 := rfl
  rw [e1, shapeCast_comp, shapeCast_id]
  have e2 : ∀ v : IVec S56x128 8, (shapeCast S1x56x128 v shapeCasts_S56x128_S1x56x128 : IVec S1x56x128 8) (ix3 z m l) = v (ix2 m l) := by
    intro v; pointwise
  rw [e2, ← unpack e o (l.val % 2) he ho (by omega), ← laneShift_apply m l, ← hw]
  show BitVec.setWidth 8 (IntOp.shrsi .vector (dynamicGather 1 w t (ix2 m l)) (laneShift (ix2 m l)) &&& 15#32) = _
  have e3 : dynamicGather 1 w t (ix2 m l) = w (ix2 m P) := by
    unfold dynamicGather
    refine congrArg w (funext fun a => Fin.ext ?_)
    match a with
    | ⟨0, _⟩ => rfl
    | ⟨1, _⟩ =>
      show (t (ix2 m l)).toNat % 128 = P.val
      rw [ht, BitVec.toNat_ofNat]; omega
  rw [e3]

theorem pay619_apply (M : Vec Ideal S128x128 .i32) (m : Fin 56) (P : Fin 128) : k0_pay619 M (ix2 m P) = M (ix2 P ⟨m.val, by omega⟩) := by
  unfold k0_pay619
  show M _ = M _
  refine congrArg M (funext fun a => Fin.ext ?_)
  match a with
  | ⟨0, _⟩ => show 0 + P.val = P.val; omega
  | ⟨1, _⟩ => show 0 + m.val = m.val; omega

/-- The block of codes: a row's leaf in each codebook, as a byte. -/
def codeBlock (cd : ℕ → ℕ → BitVec 32) (y : S1x56x256.Idx) : BitVec 8 := BitVec.setWidth 8 (cd (y 2).val (y 1).val)

/-- The stored block is the block of codes. -/
theorem canon_codes (w : IVec S56x128 32) (cd : ℕ → ℕ → BitVec 32) (hcd : ∀ R m, (cd R m).toNat < 16)
    (hw : ∀ (m : Fin 56) (P : Fin 128), w (ix2 m P) = packLeaf (cd (2 * P.val) m.val) (cd (2 * P.val + 1) m.val)) (v7 : IVec S56x128 32)
    (hv : v7 = iota Kind.tc S56x128 32 [1] iota_S56x128_d1_w32) (y : S1x56x256.Idx) :
    View.canon (Val := Elt Ideal) (e := .i8) [⟨Rect.unit (s := S1x56x256) ![0, 0, 128] S1x56x128.size inb_S1x56x256_S1x56x128_0_0_128, k0_pay625 w v7 2#32 (k0_pay622 v7) (k0_pay623 v7) k0_pay624⟩,
      ⟨Rect.unit (s := S1x56x256) ![0, 0, 0] S1x56x128.size inb_S1x56x256_S1x56x128_0_0_0, k0_pay621 w v7 k0_pay620⟩] y = codeBlock cd y := by
  rw [pay625_eq w v7 hv, hv]
  have pc : ∀ (off : ℕ) (P : Fin 128 → Fin 128) (hP : ∀ l, 2 * (P l).val + l.val % 2 = off + l.val) (t : IVec S56x128 32) (ht : ∀ m l, t (ix2 m l) = BitVec.ofNat 32 (P l).val)
      (h : ∀ d, (![0, 0, off] : Fin 3 → ℕ) d + S1x56x128.size d ≤ S1x56x256.size d) (x : S1x56x128.Idx),
      k0_pay621 w (iota Kind.tc S56x128 32 [1] iota_S56x128_d1_w32) t x = codeBlock cd ((Rect.unit (s := S1x56x256) ![0, 0, off] S1x56x128.size h).emb x) := by
    intro off P hP t ht h x
    have k := pay621_apply w t (x 1) (x 2) (P (x 2)) (ht _ _) _ _ (hcd _ _) (hcd _ _) (hw (x 1) (P (x 2))) (x 0)
    have ex : x = ix3 (x 0) (x 1) (x 2) := by
      funext a; match a with
      | ⟨0, _⟩ => rfl
      | ⟨1, _⟩ => rfl
      | ⟨2, _⟩ => rfl
    have e1 : (((Rect.unit (s := S1x56x256) ![0, 0, off] S1x56x128.size h).emb x) 1).val = (x 1).val := by
      rw [ValueKit.rect_emb_unit_val]; show 0 + _ = _; rw [Nat.zero_add]
    have e2 : (((Rect.unit (s := S1x56x256) ![0, 0, off] S1x56x128.size h).emb x) 2).val = off + (x 2).val := by
      rw [ValueKit.rect_emb_unit_val]; rfl
    unfold codeBlock
    rw [e1, e2, ← hP (x 2)]
    refine (congrArg _ ex).trans (k.trans (congrArg _ ?_))
    by_cases c : (x 2).val % 2 = 0
    · rw [if_pos c, c]; rfl
    · rw [if_neg c, show (x 2).val % 2 = 1 by omega]
  refine View.canon_apply_of_pieces (Val := Elt Ideal) (e := .i8) (codeBlock cd) _ ?_ y ?_
  · exact List.forall_mem_cons.2 ⟨pc 128 (fun l => ⟨64 + l.val / 2, by omega⟩) (fun l => by show 2 * (64 + l.val / 2) + _ = _; omega) lanesHi (fun m l => lanesHi_apply m l) inb_S1x56x256_S1x56x128_0_0_128,
      List.forall_mem_cons.2 ⟨pc 0 (fun l => ⟨l.val / 2, by omega⟩) (fun l => by show 2 * (l.val / 2) + _ = _; omega) k0_pay620 (fun m l => lanesLo_apply m l) inb_S1x56x256_S1x56x128_0_0_0, fun p hp => absurd hp List.not_mem_nil⟩⟩
  · have h0 : (y 0).val < 1 := (y 0).isLt
    have h1 : (y 1).val < 56 := (y 1).isLt
    have h2 : (y 2).val < 256 := (y 2).isLt
    by_cases h : (y 2).val < 128
    · refine ⟨_, List.mem_cons_of_mem _ (List.mem_cons_self ..), mem_unit _ _ inb_S1x56x256_S1x56x128_0_0_0 _ fun a => ?_⟩
      match a with
      | ⟨0, _⟩ => show 0 ≤ (y 0).val ∧ (y 0).val < 0 + 1; omega
      | ⟨1, _⟩ => show 0 ≤ (y 1).val ∧ (y 1).val < 0 + 56; omega
      | ⟨2, _⟩ => show 0 ≤ (y 2).val ∧ (y 2).val < 0 + 128; omega
    · refine ⟨_, List.mem_cons_self .., mem_unit _ _ inb_S1x56x256_S1x56x128_0_0_128 _ fun a => ?_⟩
      match a with
      | ⟨0, _⟩ => show 0 ≤ (y 0).val ∧ (y 0).val < 0 + 1; omega
      | ⟨1, _⟩ => show 0 ≤ (y 1).val ∧ (y 1).val < 0 + 56; omega
      | ⟨2, _⟩ => show 128 ≤ (y 2).val ∧ (y 2).val < 128 + 128; omega

end Cert.KernelIdeal.Gen
end
-- ==== Proof.Tables.lean ====
/-
What the first grid point leaves in the two carried buffers: each codebook's table of places within its own 128 columns, and the thresholds.
-/
module

public import proofs.«01_k».proof.Proof.Codes
public import Idealize.ShloMosaic.Lib.WholeRead

@[expose] public section

set_option maxRecDepth 16384

noncomputable section

namespace Cert.KernelIdeal.Gen

open Idealize.ShloMosaic Idealize.ShloMosaic.TcCoe Idealize.ShloMosaic.Tactic
open Facts

/-- A codebook's split of level `l`, as the kernel reads it. -/
def splitWord {F : FTy → Type} (arg1 : Memref sig .tc .smem S4x56 .i32) (harg1 : arg1.IsWhole) (x0 : Vec F S4x56 .i32) (l m : ℕ)
    (h : ∀ d, (![l, m] : Fin 2 → ℕ) d + S1x1.size d ≤ S4x56.size d) : BitVec 32 :=
  View.readAt (Elt F) arg1.view (Rect.unit (s := S4x56) ![l, m] S1x1.size h).toLoadRect (harg1.unread x0) (Shape.Idx.first (s := S1x1) (by decide))

/-- Which of four words a lane holds: 32 lanes each. -/
def laneWord (w0 w1 w2 w3 : BitVec 32) : IVec S8x128 32 :=
  select (cmpi CmpIPredicate.sge lane (broadcast S8x128 96#32)) (broadcast S8x128 w3)
    (select (cmpi CmpIPredicate.sge lane (broadcast S8x128 64#32)) (broadcast S8x128 w2)
      (select (cmpi CmpIPredicate.sge lane (broadcast S8x128 32#32)) (broadcast S8x128 w1) (broadcast S8x128 w0)))

theorem inbSplit (l m : ℕ) (hl : l < 4) (hm : m < 56) : ∀ d, (![l, m] : Fin 2 → ℕ) d + S1x1.size d ≤ S4x56.size d := fun d =>
  match d with
  | ⟨0, _⟩ => by show l + 1 ≤ 4; omega
  | ⟨1, _⟩ => by show m + 1 ≤ 56; omega

theorem inbTab (m : ℕ) (hm : m < 56) : ∀ d, (![m, 0, 0] : Fin 3 → ℕ) d + S1x8x128.size d ≤ S56x8x128.size d := fun d =>
  match d with
  | ⟨0, _⟩ => by show m + 1 ≤ 56; omega
  | ⟨1, _⟩ => by show 0 + 8 ≤ 8; omega
  | ⟨2, _⟩ => by show 0 + 128 ≤ 128; omega

/-- One codebook's table: each split's place within the codebook's own 128 columns. -/
def splitTable {F : FTy → Type} (arg1 : Memref sig .tc .smem S4x56 .i32) (harg1 : arg1.IsWhole) (x0 : Vec F S4x56 .i32) (m : ℕ) (hm : m < 56) : IVec S8x128 32 :=
  laneWord (Scalar.subi (splitWord arg1 harg1 x0 0 m (inbSplit 0 m (by decide) hm)) (BitVec.ofNat 32 (128 * m)))
    (Scalar.subi (splitWord arg1 harg1 x0 1 m (inbSplit 1 m (by decide) hm)) (BitVec.ofNat 32 (128 * m)))
    (Scalar.subi (splitWord arg1 harg1 x0 2 m (inbSplit 2 m (by decide) hm)) (BitVec.ofNat 32 (128 * m)))
    (Scalar.subi (splitWord arg1 harg1 x0 3 m (inbSplit 3 m (by decide) hm)) (BitVec.ofNat 32 (128 * m)))

/-- The stores of the first `n` codebooks' tables, the latest first. -/
def tabPieces {F : FTy → Type} (arg1 : Memref sig .tc .smem S4x56 .i32) (harg1 : arg1.IsWhole) (x0 : Vec F S4x56 .i32) :
    (n : ℕ) → n ≤ 56 → List (View.Piece (Elt F) S56x8x128 .i32)
  | 0, _ => []
  | n + 1, h => ⟨Rect.unit (s := S56x8x128) ![n, 0, 0] S1x8x128.size (inbTab n h), shapeCast S1x8x128 (splitTable arg1 harg1 x0 n h) shapeCasts_S8x128_S1x8x128⟩
      :: tabPieces arg1 harg1 x0 n (Nat.le_of_succ_le h)

theorem tables_eq {F : FTy → Type} (c : Dev nD) (arg1 : Memref sig .tc .smem S4x56 .i32) (harg1 : arg1.IsWhole) (x0 : Vec F S4x56 .i32) :
    kernelRun0_A.sl.HS0_56 c arg1 harg1 x0 = tabPieces arg1 harg1 x0 56 le_rfl := rfl

theorem laneWord_apply (w0 w1 w2 w3 : BitVec 32) (r : Fin 8) (l : Fin 128) :
    laneWord w0 w1 w2 w3 (ix2 r l) = if l.val / 32 = 0 then w0 else if l.val / 32 = 1 then w1 else if l.val / 32 = 2 then w2 else w3 := by
  have h : ∀ l : Fin 128, cmpi CmpIPredicate.sge lane (broadcast S8x128 96#32) (ix2 (0 : Fin 8) l) = (if 96 ≤ l.val then 1#1 else 0#1)
    ∧ cmpi CmpIPredicate.sge lane (broadcast S8x128 64#32) (ix2 (0 : Fin 8) l) = (if 64 ≤ l.val then 1#1 else 0#1)
    ∧ cmpi CmpIPredicate.sge lane (broadcast S8x128 32#32) (ix2 (0 : Fin 8) l) = (if 32 ≤ l.val then 1#1 else 0#1) := by decide
  have e : ∀ k : BitVec 32, cmpi CmpIPredicate.sge lane (broadcast S8x128 k) (ix2 r l) = cmpi CmpIPredicate.sge lane (broadcast S8x128 k) (ix2 (0 : Fin 8) l) := fun _ => rfl
  show Scalar.select (cmpi CmpIPredicate.sge lane (broadcast S8x128 96#32) (ix2 r l)) w3 (Scalar.select (cmpi CmpIPredicate.sge lane (broadcast S8x128 64#32) (ix2 r l)) w2
    (Scalar.select (cmpi CmpIPredicate.sge lane (broadcast S8x128 32#32) (ix2 r l)) w1 w0)) = _
  rw [e, e, e, (h l).1, (h l).2.1, (h l).2.2]
  by_cases c1 : 96 ≤ l.val
  · rw [if_pos c1, if_neg (show ¬ l.val / 32 = 0 by omega), if_neg (show ¬ l.val / 32 = 1 by omega), if_neg (show ¬ l.val / 32 = 2 by omega)]; rfl
  · rw [if_neg c1]
    by_cases c2 : 64 ≤ l.val
    · rw [if_pos c2, if_neg (show ¬ l.val / 32 = 0 by omega), if_neg (show ¬ l.val / 32 = 1 by omega), if_pos (show l.val / 32 = 2 by omega)]; rfl
    · rw [if_neg c2]
      by_cases c3 : 32 ≤ l.val
      · rw [if_pos c3, if_neg (show ¬ l.val / 32 = 0 by omega), if_pos (show l.val / 32 = 1 by omega)]; rfl
      · rw [if_neg c3, if_pos (show l.val / 32 = 0 by omega)]; rfl

section
variable (arg1 : Memref sig .tc .smem S4x56 .i32) (harg1 : arg1.IsWhole) (x0 : Vec Ideal S4x56 .i32)

theorem splitWord_apply (l m : ℕ) (hl : l < 4) (hm : m < 56) (h) : splitWord arg1 harg1 x0 l m h = x0 (ix2 ⟨l, hl⟩ ⟨m, hm⟩) := by
  unfold splitWord
  rw [Memref.IsWhole.readAt_unread]
  refine congrArg x0 (funext fun a => Fin.ext ?_)
  match a with
  | ⟨0, _⟩ => show l + 1 * 0 = l; omega
  | ⟨1, _⟩ => show m + 1 * 0 = m; omega

theorem splitTable_apply (m : ℕ) (hm : m < 56) (r : Fin 8) (l : Fin 128) :
    splitTable arg1 harg1 x0 m hm (ix2 r l) = Scalar.subi (x0 (ix2 ⟨l.val / 32, by omega⟩ ⟨m, hm⟩)) (BitVec.ofNat 32 (128 * m)) := by
  unfold splitTable
  rw [laneWord_apply, splitWord_apply _ _ _ 0 m (by decide) hm, splitWord_apply _ _ _ 1 m (by decide) hm, splitWord_apply _ _ _ 2 m (by decide) hm, splitWord_apply _ _ _ 3 m (by decide) hm]
  have key : ∀ q (hq : q < 4), (if q = 0 then Scalar.subi (x0 (ix2 ⟨0, by decide⟩ ⟨m, hm⟩)) (BitVec.ofNat 32 (128 * m)) else if q = 1 then Scalar.subi (x0 (ix2 ⟨1, by decide⟩ ⟨m, hm⟩)) (BitVec.ofNat 32 (128 * m))
      else if q = 2 then Scalar.subi (x0 (ix2 ⟨2, by decide⟩ ⟨m, hm⟩)) (BitVec.ofNat 32 (128 * m)) else Scalar.subi (x0 (ix2 ⟨3, by decide⟩ ⟨m, hm⟩)) (BitVec.ofNat 32 (128 * m)))
      = Scalar.subi (x0 (ix2 ⟨q, hq⟩ ⟨m, hm⟩)) (BitVec.ofNat 32 (128 * m)) := by
    intro q hq
    match q, hq with
    | 0, _ => rfl
    | 1, _ => rfl
    | 2, _ => rfl
    | 3, _ => rfl
  exact key _ _

/-- The tables of every codebook. -/
def tableAt (y : S56x8x128.Idx) : BitVec 32 :=
  Scalar.subi (x0 (ix2 ⟨(y 2).val / 32, by have : (y 2).val < 128 := (y 2).isLt; show _ < 4; omega⟩ ⟨(y 0).val, (y 0).isLt⟩)) (BitVec.ofNat 32 (128 * (y 0).val))

theorem mem_tabPieces (n : ℕ) (hn : n ≤ 56) (p : View.Piece (Elt Ideal) S56x8x128 .i32) :
    p ∈ tabPieces arg1 harg1 x0 n hn ↔ ∃ (m : ℕ) (hm : m < n), p = ⟨Rect.unit (s := S56x8x128) ![m, 0, 0] S1x8x128.size (inbTab m (lt_of_lt_of_le hm hn)),
      shapeCast S1x8x128 (splitTable arg1 harg1 x0 m (lt_of_lt_of_le hm hn)) shapeCasts_S8x128_S1x8x128⟩ := by
  induction n with
  | zero => exact ⟨fun h => absurd h List.not_mem_nil, fun ⟨_, h, _⟩ => absurd h (Nat.not_lt_zero _)⟩
  | succ n ih =>
    rw [tabPieces, List.mem_cons, ih]
    constructor
    · rintro (h | ⟨m, hm, h⟩)
      · exact ⟨n, Nat.lt_succ_self n, h⟩
      · exact ⟨m, Nat.lt_succ_of_lt hm, h⟩
    · rintro ⟨m, hm, h⟩
      rcases Nat.lt_succ_iff_lt_or_eq.1 hm with h' | h'
      · exact Or.inr ⟨m, h', h⟩
      · subst h'; exact Or.inl h

/-- The first point's stores leave every codebook's table. -/
theorem canon_tables (c : Dev nD) (y : S56x8x128.Idx) : View.canon (kernelRun0_A.sl.HS0_56 c arg1 harg1 x0) y = tableAt x0 y := by
  rw [tables_eq]
  refine View.canon_apply_of_pieces (Val := Elt Ideal) (e := .i32) (tableAt x0) _ (fun p hp x => ?_) y ?_
  · obtain ⟨m, hm, rfl⟩ := (mem_tabPieces arg1 harg1 x0 56 le_rfl p).1 hp
    have e2 : ∀ v : IVec S8x128 32, (shapeCast S1x8x128 v shapeCasts_S8x128_S1x8x128 : IVec S1x8x128 32) (ix3 (x 0) (x 1) (x 2)) = v (ix2 (x 1) (x 2)) := by
      intro v; pointwise
    have ex : x = ix3 (x 0) (x 1) (x 2) := by
      funext a; match a with
      | ⟨0, _⟩ => rfl
      | ⟨1, _⟩ => rfl
      | ⟨2, _⟩ => rfl
    have h0 : (x 0).val < 1 := (x 0).isLt
    have e0 : (((Rect.unit (s := S56x8x128) ![m, 0, 0] S1x8x128.size (inbTab m hm)).emb x) 0).val = m := by
      rw [ValueKit.rect_emb_unit_val]; show m + (x 0).val = m; omega
    have e3 : (((Rect.unit (s := S56x8x128) ![m, 0, 0] S1x8x128.size (inbTab m hm)).emb x) 2).val = (x 2).val := by
      rw [ValueKit.rect_emb_unit_val]; show 0 + _ = _; rw [Nat.zero_add]
    refine (congrArg _ ex).trans ((e2 _).trans ((splitTable_apply arg1 harg1 x0 m hm (x 1) (x 2)).trans ?_))
    unfold tableAt
    simp only [e0, e3]
  · have h0 : (y 0).val < 56 := (y 0).isLt
    have h1 : (y 1).val < 8 := (y 1).isLt
    have h2 : (y 2).val < 128 := (y 2).isLt
    refine ⟨_, (mem_tabPieces arg1 harg1 x0 56 le_rfl _).2 ⟨(y 0).val, h0, rfl⟩, mem_unit _ _ (inbTab _ h0) _ fun a => ?_⟩
    match a with
    | ⟨0, _⟩ => show (y 0).val ≤ (y 0).val ∧ (y 0).val < (y 0).val + 1; omega
    | ⟨1, _⟩ => show 0 ≤ (y 1).val ∧ (y 1).val < 0 + 8; omega
    | ⟨2, _⟩ => show 0 ≤ (y 2).val ∧ (y 2).val < 0 + 128; omega

end

theorem canon_thresholds (c : Dev nD) (arg2 : Memref sig .tc .vmem S15x56 .bf16) (harg2 : arg2.IsWhole) (x1 : Vec Ideal S15x56 .bf16) (i m : ℕ) (hi : i < 15) (hm : m < 56) :
    View.canon (kernelRun0_A.sl.HS1_2 c arg2 harg2 x1) (ix2 ⟨i, lt16 hi⟩ ⟨m, lt128 hm⟩) = x1 (ix2 ⟨i, hi⟩ ⟨m, hm⟩) := by
  have ey : (ix2 (⟨i, lt16 hi⟩ : Fin 16) (⟨m, lt128 hm⟩ : Fin 128) : S16x128.Idx) = (Rect.unit (s := S16x128) ![0, 0] S15x56.size inb_S16x128_S15x56_0_0).emb (ix2 ⟨i, hi⟩ ⟨m, hm⟩) := by
    funext a
    refine Fin.ext ?_
    rw [ValueKit.rect_emb_unit_val]
    match a with
    | ⟨0, _⟩ => show i = 0 + i; omega
    | ⟨1, _⟩ => show m = 0 + m; omega
  have e : kernelRun0_A.sl.HS1_2 c arg2 harg2 x1 = ⟨Rect.unit (s := S16x128) ![0, 0] S15x56.size inb_S16x128_S15x56_0_0, k0_pay617 (kernelRun0_A.sl.r_224 c arg2 harg2 x1)⟩
    :: [⟨Rect.unit (s := S16x128) ![0, 0] S16x128.size inb_S16x128_S16x128_0_0, k0_pay108 (F := Ideal)⟩] := rfl
  rw [e, ey, View.canon_cons_emb]
  unfold k0_pay617
  rw [shapeCast_id, ValueIdx.extf_apply, shapeCast_id]
  unfold kernelRun0_A.sl.r_224
  rw [Memref.IsWhole.readAt_unread]
  refine congrArg x1 (funext fun a => Fin.ext ?_)
  match a with
  | ⟨0, _⟩ => show 0 + 1 * i = i; omega
  | ⟨1, _⟩ => show 0 + 1 * m = m; omega

end Cert.KernelIdeal.Gen
end
-- ==== Proof.Points.lean ====
/-
What one grid point leaves in its block of the product and its block of codes, for the first point and for a later one.
-/
module

public import proofs.«01_k».proof.Proof.Tables
public import proofs.«01_k».proof.Proof.KIFrame

@[expose] public section

set_option maxRecDepth 16384

noncomputable section

namespace Cert.KernelIdeal.Gen

open Idealize.ShloMosaic Idealize.ShloMosaic.TcCoe Idealize.ShloMosaic.Tactic
open Facts

/-- A row's entries, by number. -/
def rowOf (x2 : S256x7168.Idx → EReal) (R C : ℕ) : EReal := if h : R < 256 ∧ C < 7168 then x2 (ix2 ⟨R, h.1⟩ ⟨C, h.2⟩) else 0

/-- A codebook's split columns, by number. -/
def colOf (x0 : S4x56.Idx → BitVec 32) (m l : ℕ) : ℕ := if h : l < 4 ∧ m < 56 then (x0 (ix2 ⟨l, h.1⟩ ⟨m, h.2⟩)).toNat else 0

/-- A codebook's thresholds, by number. -/
def thrOf (x1 : S15x56.Idx → EReal) (m i : ℕ) : EReal := if h : i < 15 ∧ m < 56 then x1 (ix2 ⟨i, h.1⟩ ⟨m, h.2⟩) else 0

/-- The leaves of a block of rows. -/
def cdOf (x0 : S4x56.Idx → BitVec 32) (x1 : S15x56.Idx → EReal) (x2 : S256x7168.Idx → EReal) : ℕ → ℕ → BitVec 32 := leaves (rowOf x2) (colOf x0) (thrOf x1)

/-- Every codebook splits on columns of its own block of 128. -/
def OwnBlock (x0 : S4x56.Idx → BitVec 32) : Prop := ∀ (l : Fin 4) (m : Fin 56), 128 * m.val ≤ (x0 (ix2 l m)).toNat ∧ (x0 (ix2 l m)).toNat < 128 * m.val + 128

theorem cdOf_lt (x0 : S4x56.Idx → BitVec 32) (x1 : S15x56.Idx → EReal) (x2 : S256x7168.Idx → EReal) (R m : ℕ) : (cdOf x0 x1 x2 R m).toNat < 16 := leaves_lt ..

theorem tableAt_own (x0 : S4x56.Idx → BitVec 32) (hs : OwnBlock x0) (m : Fin 56) (r : Fin 8) (l : Fin 128) :
    (tableAt x0 (ix3 m r l)).toNat < 128 ∧ 128 * m.val + (tableAt x0 (ix3 m r l)).toNat = colOf x0 m.val (l.val / 32) := by
  have h := hs ⟨l.val / 32, by omega⟩ m
  have e : (tableAt x0 (ix3 m r l)).toNat = (x0 (ix2 ⟨l.val / 32, by omega⟩ m)).toNat - 128 * m.val := by
    show (x0 (ix2 ⟨l.val / 32, by omega⟩ m) - BitVec.ofNat 32 (128 * m.val)).toNat = _
    rw [BitVec.toNat_sub, BitVec.toNat_ofNat]
    have hm := m.isLt
    omega
  have hc : colOf x0 m.val (l.val / 32) = (x0 (ix2 ⟨l.val / 32, by omega⟩ m)).toNat := dif_pos ⟨by omega, m.isLt⟩
  rw [hc, e]
  exact ⟨by omega, by omega⟩

section Core
variable (𝒱 : Variants) (c : Dev nD) (bd : Option 𝒱.V) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole)
variable (X_arg3 : BufTy.Contents (Elt Ideal) arg3.view.ty) (X_arg4 : BufTy.Contents (Elt Ideal) arg4.view.ty) (X_arg5 : BufTy.Contents (Elt Ideal) arg5.view.ty)
  (X_arg8 : BufTy.Contents (Elt Ideal) arg8.view.ty) (X_arg9 : BufTy.Contents (Elt Ideal) arg9.view.ty)
  (x0 : Vec Ideal S4x56 .i32) (x1 : Vec Ideal S15x56 .bf16) (x2 : Vec Ideal S256x7168 .bf16) (x3 : Vec Ideal S896x18432 .i8) (x4 : Vec Ideal S1x18432 .f32)
  (hs : OwnBlock x0)
  (h3 : ∀ y, (arg3.view.read (Elt Ideal) X_arg3) y = x2 y)
  (h4 : ∀ y, (arg4.view.read (Elt Ideal) X_arg4) y = x3 y) (h5 : ∀ y, (arg5.view.read (Elt Ideal) X_arg5) y = x4 y)
  (h8 : ∀ y, (arg8.view.read (Elt Ideal) X_arg8) y = tableAt x0 y)
  (h9 : ∀ (i m : ℕ) (hi : i < 15) (hm : m < 56), (arg9.view.read (Elt Ideal) X_arg9) (ix2 ⟨i, lt16 hi⟩ ⟨m, lt128 hm⟩) = x1 (ix2 ⟨i, hi⟩ ⟨m, hm⟩))

include h3 in
theorem core_row (R : Fin 256) (C : Fin 7168) : (arg3.view.read (Elt Ideal) X_arg3) (ix2 R C) = rowOf x2 R.val C.val := by
  rw [h3]; unfold rowOf; rw [dif_pos ⟨R.isLt, C.isLt⟩]

include h8 hs in
theorem core_col (m : Fin 56) (r : Fin 8) (l : Fin 128) : ((arg8.view.read (Elt Ideal) X_arg8) (ix3 m r l)).toNat < 128
    ∧ 128 * m.val + ((arg8.view.read (Elt Ideal) X_arg8) (ix3 m r l)).toNat = colOf x0 m.val (l.val / 32) := by
  rw [h8]; exact tableAt_own x0 hs m r l

include h9 in
theorem core_thr (i : ℕ) (hi : i < 15) (m : ℕ) (hm : m < 56) : (arg9.view.read (Elt Ideal) X_arg9) (ix2 ⟨i, lt16 hi⟩ ⟨m, lt128 hm⟩) = thrOf x1 m i := by
  rw [h9 i m hi hm]; unfold thrOf; rw [dif_pos ⟨hi, hm⟩]

include h3 h4 h5 h8 h9 hs in
theorem core_product (y : S256x18432.Idx) :
    View.canon (pb_k0_t2 (F := Ideal) 𝒱 c bd i arg1 harg1 arg2 harg2 arg3 harg3 arg4 harg4 arg5 harg5 arg6 harg6 arg7 harg7 arg8 harg8 arg9 harg9 arg10 harg10 arg11 harg11 X_arg4 X_arg5
      (arg10.view.writes (Elt Ideal) arg10.view.junk (pb_k0_t1 (F := Ideal) 𝒱 c bd i arg1 harg1 arg2 harg2 arg3 harg3 arg4 harg4 arg5 harg5 arg6 harg6 arg7 harg7 arg8 harg8 arg9 harg9 arg10 harg10 arg11 harg11 X_arg3 X_arg8 X_arg9 16).1) 36) y
      = prodAt (cdOf x0 x1 x2) x3 x4 y := by
  refine canon_cols 𝒱 c bd i arg1 harg1 arg2 harg2 arg3 harg3 arg4 harg4 arg5 harg5 arg6 harg6 arg7 harg7 arg8 harg8 arg9 harg9 arg10 harg10 arg11 harg11 X_arg4 X_arg5 _ (cdOf x0 x1 x2) (fun R m => cdOf_lt x0 x1 x2 R m) x3 x4 h4 h5 (fun z => ?_) y
  rw [View.read_writes_junk_apply_eq_canon]
  exact canon_hot 𝒱 c bd i arg1 harg1 arg2 harg2 arg3 harg3 arg4 harg4 arg5 harg5 arg6 harg6 arg7 harg7 arg8 harg8 arg9 harg9 arg10 harg10 arg11 harg11 X_arg3 X_arg8 X_arg9 (rowOf x2) (colOf x0) (thrOf x1) (core_row arg3 X_arg3 x2 h3) (core_col arg8 X_arg8 x0 hs h8) (core_thr arg9 X_arg9 x1 h9) z

include h3 h8 h9 hs in
theorem core_packed (m : Fin 56) (P : Fin 128) :
    k0_pay619 (F := Ideal) (arg11.view.readCov (pb_k0_t1 (F := Ideal) 𝒱 c bd i arg1 harg1 arg2 harg2 arg3 harg3 arg4 harg4 arg5 harg5 arg6 harg6 arg7 harg7 arg8 harg8 arg9 harg9 arg10 harg10 arg11 harg11 X_arg3 X_arg8 X_arg9 16).2 (Rect.unit (s := S128x128) ![0, 0] S128x128.size inb_S128x128_S128x128_0_0).toLoadRect) (ix2 m P)
      = packLeaf (cdOf x0 x1 x2 (2 * P.val) m.val) (cdOf x0 x1 x2 (2 * P.val + 1) m.val) := by
  rw [pay619_apply, View.readCov_eq_canon']
  refine Eq.trans (congrArg _ (?_ : _ = ix2 P ⟨m.val, lt128 m.isLt⟩)) ((canon_leaf 𝒱 c bd i arg1 harg1 arg2 harg2 arg3 harg3 arg4 harg4 arg5 harg5 arg6 harg6 arg7 harg7 arg8 harg8 arg9 harg9 arg10 harg10 arg11 harg11 X_arg3 X_arg8 X_arg9 _).trans
    (allLeaf_apply arg3 arg8 arg9 X_arg3 X_arg8 X_arg9 (rowOf x2) (colOf x0) (thrOf x1) (core_row arg3 X_arg3 x2 h3) (core_col arg8 X_arg8 x0 hs h8) (core_thr arg9 X_arg9 x1 h9) P m.val m.isLt))
  funext a
  refine Fin.ext ?_
  match a with
  | ⟨0, _⟩ => show 0 + 1 * P.val = P.val; omega
  | ⟨1, _⟩ => show 0 + 1 * m.val = m.val; omega

include h3 h8 h9 hs in
theorem core_codes (v7 : IVec S56x128 32) (hv : v7 = iota Kind.tc S56x128 32 [1] iota_S56x128_d1_w32) (w : IVec S56x128 32)
    (hw : w = k0_pay619 (F := Ideal) (arg11.view.readCov (pb_k0_t1 (F := Ideal) 𝒱 c bd i arg1 harg1 arg2 harg2 arg3 harg3 arg4 harg4 arg5 harg5 arg6 harg6 arg7 harg7 arg8 harg8 arg9 harg9 arg10 harg10 arg11 harg11 X_arg3 X_arg8 X_arg9 16).2 (Rect.unit (s := S128x128) ![0, 0] S128x128.size inb_S128x128_S128x128_0_0).toLoadRect)) (y : S1x56x256.Idx) :
    View.canon (Val := Elt Ideal) (e := .i8) [⟨Rect.unit (s := S1x56x256) ![0, 0, 128] S1x56x128.size inb_S1x56x256_S1x56x128_0_0_128, k0_pay625 w v7 2#32 (k0_pay622 v7) (k0_pay623 v7) k0_pay624⟩,
      ⟨Rect.unit (s := S1x56x256) ![0, 0, 0] S1x56x128.size inb_S1x56x256_S1x56x128_0_0_0, k0_pay621 w v7 k0_pay620⟩] y = codeBlock (cdOf x0 x1 x2) y := by
  refine canon_codes w (cdOf x0 x1 x2) (fun R m => cdOf_lt x0 x1 x2 R m) (fun m P => ?_) v7 hv y
  rw [hw]
  exact core_packed 𝒱 c bd i arg1 harg1 arg2 harg2 arg3 harg3 arg4 harg4 arg5 harg5 arg6 harg6 arg7 harg7 arg8 harg8 arg9 harg9 arg10 harg10 arg11 harg11 X_arg3 X_arg8 X_arg9 x0 x1 x2 hs h3 h8 h9 m P

end Core

section Cases
variable (c : Dev nD) (i : grid0.Coords) (arg1 : Memref sig .tc .smem S4x56 .i32) (harg1 : arg1.IsWhole) (arg2 : Memref sig .tc .vmem S15x56 .bf16) (harg2 : arg2.IsWhole) (arg3 : Memref sig .tc .vmem S256x7168 .bf16) (harg3 : arg3.IsWhole) (arg4 : Memref sig .tc .vmem S896x18432 .i8) (harg4 : arg4.IsWhole) (arg5 : Memref sig .tc .vmem S1x18432 .f32) (harg5 : arg5.IsWhole) (arg6 : Memref sig .tc .vmem S256x18432 .bf16) (harg6 : arg6.IsWhole) (arg7 : Memref sig .tc .vmem S1x56x256 .i8) (harg7 : arg7.IsWhole) (arg8 : Memref sig .tc .vmem S56x8x128 .i32) (harg8 : arg8.IsWhole) (arg9 : Memref sig .tc .vmem S16x128 .f32) (harg9 : arg9.IsWhole) (arg10 : Memref sig .tc .vmem S256x1024 .bf16) (harg10 : arg10.IsWhole) (arg11 : Memref sig .tc .vmem S128x128 .i32) (harg11 : arg11.IsWhole)
variable (x0 : Vec Ideal S4x56 .i32) (x1 : Vec Ideal S15x56 .bf16) (x2 : Vec Ideal S256x7168 .bf16) (x3 : Vec Ideal S896x18432 .i8) (x4 : Vec Ideal S1x18432 .f32)
  (hs : OwnBlock x0)

theorem tableA (y : S56x8x128.Idx) : (arg8.view.read (Elt Ideal) (arg8.view.writes (Elt Ideal) arg8.view.junk (kernelRun0_A.sl.HS0_56 c arg1 harg1 x0))) y = tableAt x0 y := by
  rw [View.read_writes_junk_apply_eq_canon]; exact canon_tables arg1 harg1 x0 c y

theorem thrA (i m : ℕ) (hi : i < 15) (hm : m < 56) : (arg9.view.read (Elt Ideal) (arg9.view.writes (Elt Ideal) arg9.view.junk (kernelRun0_A.sl.HS1_2 c arg2 harg2 x1))) (ix2 ⟨i, lt16 hi⟩ ⟨m, lt128 hm⟩) = x1 (ix2 ⟨i, hi⟩ ⟨m, hm⟩) := by
  rw [View.read_writes_junk_apply_eq_canon]; exact canon_thresholds c arg2 harg2 x1 i m hi hm

include hs in
/-- The first point's block of the product. -/
theorem outA_5 (hc0 : cond0_0 i) (y : S256x18432.Idx) : out0_A_5 (F := Ideal) c i arg1 harg1 arg2 harg2 arg3 harg3 arg4 harg4 arg5 harg5 arg6 harg6 arg7 harg7 arg8 harg8 arg9 harg9 arg10 harg10 arg11 harg11 hc0 x0 x1 x2 x3 x4 y = prodAt (cdOf x0 x1 x2) x3 x4 y := by
  unfold out0_A_5
  rw [View.read_writes_junk_apply_eq_canon]
  exact core_product Variants.none c none i arg1 harg1 arg2 harg2 arg3 harg3 arg4 harg4 arg5 harg5 arg6 harg6 arg7 harg7 arg8 harg8 arg9 harg9 arg10 harg10 arg11 harg11 (harg3.unread x2) (harg4.unread x3) (harg5.unread x4) (arg8.view.writes (Elt Ideal) arg8.view.junk (kernelRun0_A.sl.HS0_56 c arg1 harg1 x0))
    (arg9.view.writes (Elt Ideal) arg9.view.junk (kernelRun0_A.sl.HS1_2 c arg2 harg2 x1)) x0 x1 x2 x3 x4 hs (fun z => congrFun (harg3.read_unread x2) z) (fun z => congrFun (harg4.read_unread x3) z) (fun z => congrFun (harg5.read_unread x4) z)
    (tableA c arg1 harg1 arg8 x0) (thrA c arg2 harg2 arg9 x1) y

include hs in
/-- The first point's block of the codes. -/
theorem outA_6 (hc0 : cond0_0 i) (y : S1x56x256.Idx) : out0_A_6 (F := Ideal) c i arg1 harg1 arg2 harg2 arg3 harg3 arg4 harg4 arg5 harg5 arg6 harg6 arg7 harg7 arg8 harg8 arg9 harg9 arg10 harg10 arg11 harg11 hc0 x0 x1 x2 x3 x4 y = codeBlock (cdOf x0 x1 x2) y := by
  unfold out0_A_6
  rw [View.read_writes_junk_apply_eq_canon]
  exact core_codes Variants.none c none i arg1 harg1 arg2 harg2 arg3 harg3 arg4 harg4 arg5 harg5 arg6 harg6 arg7 harg7 arg8 harg8 arg9 harg9 arg10 harg10 arg11 harg11 (harg3.unread x2) (arg8.view.writes (Elt Ideal) arg8.view.junk (kernelRun0_A.sl.HS0_56 c arg1 harg1 x0))
    (arg9.view.writes (Elt Ideal) arg9.view.junk (kernelRun0_A.sl.HS1_2 c arg2 harg2 x1)) x0 x1 x2 hs (fun z => congrFun (harg3.read_unread x2) z)
    (tableA c arg1 harg1 arg8 x0) (thrA c arg2 harg2 arg9 x1) kernelRun0_A.sl.v7 rfl (kernelRun0_A.sl.r_225 c i arg1 harg1 arg2 harg2 arg3 harg3 arg4 harg4 arg5 harg5 arg6 harg6 arg7 harg7 arg8 harg8 arg9 harg9 arg10 harg10 arg11 harg11 x0 x1 x2) rfl y

/-- The tables the first point leaves. -/
theorem soutA_0 (hc0 : cond0_0 i) (y : S56x8x128.Idx) : sout0_A_0 (F := Ideal) c i arg1 harg1 arg2 harg2 arg3 harg3 arg4 harg4 arg5 harg5 arg6 harg6 arg7 harg7 arg8 harg8 arg9 harg9 arg10 harg10 arg11 harg11 hc0 x0 x1 x2 x3 x4 y = tableAt x0 y := by
  unfold sout0_A_0
  rw [View.read_writes_junk_apply_eq_canon]
  exact canon_tables arg1 harg1 x0 c y

/-- The thresholds the first point leaves. -/
theorem soutA_1 (hc0 : cond0_0 i) (k m : ℕ) (hk : k < 15) (hm : m < 56) : sout0_A_1 (F := Ideal) c i arg1 harg1 arg2 harg2 arg3 harg3 arg4 harg4 arg5 harg5 arg6 harg6 arg7 harg7 arg8 harg8 arg9 harg9 arg10 harg10 arg11 harg11 hc0 x0 x1 x2 x3 x4 (ix2 ⟨k, lt16 hk⟩ ⟨m, lt128 hm⟩) = x1 (ix2 ⟨k, hk⟩ ⟨m, hm⟩) := by
  unfold sout0_A_1
  rw [View.read_writes_junk_apply_eq_canon]
  exact canon_thresholds c arg2 harg2 x1 k m hk hm

variable (xs0 : Vec Ideal S56x8x128 .i32) (xs1 : Vec Ideal S16x128 .f32) (hxs0 : ∀ y, xs0 y = tableAt x0 y)
  (hxs1 : ∀ (k m : ℕ) (hk : k < 15) (hm : m < 56), xs1 (ix2 ⟨k, lt16 hk⟩ ⟨m, lt128 hm⟩) = x1 (ix2 ⟨k, hk⟩ ⟨m, hm⟩))

include hs hxs0 hxs1 in
/-- A later point's block of the product. -/
theorem outB_5 (hc0 : ¬cond0_0 i) (y : S256x18432.Idx) : out0_B_5 (F := Ideal) c i arg1 harg1 arg2 harg2 arg3 harg3 arg4 harg4 arg5 harg5 arg6 harg6 arg7 harg7 arg8 harg8 arg9 harg9 arg10 harg10 arg11 harg11 hc0 x0 x1 x2 x3 x4 xs0 xs1 y = prodAt (cdOf x0 x1 x2) x3 x4 y := by
  unfold out0_B_5
  rw [View.read_writes_junk_apply_eq_canon]
  exact core_product Variants.none c none i arg1 harg1 arg2 harg2 arg3 harg3 arg4 harg4 arg5 harg5 arg6 harg6 arg7 harg7 arg8 harg8 arg9 harg9 arg10 harg10 arg11 harg11 (harg3.unread x2) (harg4.unread x3) (harg5.unread x4) (harg8.unread xs0) (harg9.unread xs1)
    x0 x1 x2 x3 x4 hs (fun z => congrFun (harg3.read_unread x2) z) (fun z => congrFun (harg4.read_unread x3) z) (fun z => congrFun (harg5.read_unread x4) z)
    (fun z => (congrFun (harg8.read_unread xs0) z).trans (hxs0 z)) (fun k m hk hm => (congrFun (harg9.read_unread xs1) _).trans (hxs1 k m hk hm)) y

include hs hxs0 hxs1 in
/-- A later point's block of the codes. -/
theorem outB_6 (hc0 : ¬cond0_0 i) (y : S1x56x256.Idx) : out0_B_6 (F := Ideal) c i arg1 harg1 arg2 harg2 arg3 harg3 arg4 harg4 arg5 harg5 arg6 harg6 arg7 harg7 arg8 harg8 arg9 harg9 arg10 harg10 arg11 harg11 hc0 x0 x1 x2 x3 x4 xs0 xs1 y = codeBlock (cdOf x0 x1 x2) y := by
  unfold out0_B_6
  rw [View.read_writes_junk_apply_eq_canon]
  exact core_codes Variants.none c none i arg1 harg1 arg2 harg2 arg3 harg3 arg4 harg4 arg5 harg5 arg6 harg6 arg7 harg7 arg8 harg8 arg9 harg9 arg10 harg10 arg11 harg11 (harg3.unread x2) (harg8.unread xs0) (harg9.unread xs1) x0 x1 x2 hs (fun z => congrFun (harg3.read_unread x2) z)
    (fun z => (congrFun (harg8.read_unread xs0) z).trans (hxs0 z)) (fun k m hk hm => (congrFun (harg9.read_unread xs1) _).trans (hxs1 k m hk hm))
    kernelRun0_B.sl.v7 rfl (kernelRun0_B.sl.r c i arg1 harg1 arg2 harg2 arg3 harg3 arg4 harg4 arg5 harg5 arg6 harg6 arg7 harg7 arg8 harg8 arg9 harg9 arg10 harg10 arg11 harg11 x2 xs0 xs1) rfl y

end Cases

end Cert.KernelIdeal.Gen
end
-- ==== Proof.Arrays.lean ====
/-
The kernel's two whole results, put together from the blocks of its forty grid points.
-/
module

public import proofs.«01_k».proof.Proof.Points
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Facts

open Idealize.SL Idealize.SL.Sem

variable (m : (ℓ : Loc nD τ sig) → Buf (Elt Ideal) ℓ) (ρ : Dev nD → PrngReg)

theorem at0 : ∀ t : Fin cfg0.N, win0_0.index t = ![0, 0] := (by decide +kernel : ∀ t : Fin grid0.N, _)
theorem at1 : ∀ t : Fin cfg0.N, win0_1.index t = ![0, 0] := (by decide +kernel : ∀ t : Fin grid0.N, _)
theorem at2 : ∀ t : Fin cfg0.N, win0_2.index t = ![t.val, 0] := (by decide +kernel : ∀ t : Fin grid0.N, _)
theorem at3 : ∀ t : Fin cfg0.N, win0_3.index t = ![0, 0] := (by decide +kernel : ∀ t : Fin grid0.N, _)
theorem at4 : ∀ t : Fin cfg0.N, win0_4.index t = ![0, 0] := (by decide +kernel : ∀ t : Fin grid0.N, _)
theorem at5 : ∀ t : Fin cfg0.N, win0_5.index t = ![t.val, 0] := (by decide +kernel : ∀ t : Fin grid0.N, _)
theorem at6 : ∀ t : Fin cfg0.N, win0_6.index t = ![t.val / 8, 0, t.val % 8] := (by decide +kernel : ∀ t : Fin grid0.N, _)

theorem blk0 (c : Dev nD) (t : Fin cfg0.N) : iblk m c 0 t = V m c main_v0 := by
  funext x
  blk_ext [iblk, at0 t]

theorem blk1 (c : Dev nD) (t : Fin cfg0.N) : iblk m c 1 t = V m c main_v1 := by
  funext x
  blk_ext [iblk, at1 t]

theorem blk2 (c : Dev nD) (t : Fin cfg0.N) (R : Fin 256) (C : Fin 7168) : iblk m c 2 t (ix2 R C) = V m c main_v2 (ix2 ⟨256 * t.val + R.val, by have : t.val < 40 := t.isLt; omega⟩ C) := by
  blk_ext [iblk, at2 t]

theorem blk3 (c : Dev nD) (t : Fin cfg0.N) : iblk m c 3 t = V m c main_v3 := by
  funext x
  blk_ext [iblk, at3 t]

theorem blk4 (c : Dev nD) (t : Fin cfg0.N) : iblk m c 4 t = V m c main_v4 := by
  funext x
  blk_ext [iblk, at4 t]

/-- A first point's contents, one by one. -/
theorem atFirst (c : Dev nD) (t : Fin cfg0.N) (h0 : t.val % 40 = 0) :
    (outsAt0 m c t.val t.isLt).1 = out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) ∧
    (outsAt0 m c t.val t.isLt).2.1 = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) ∧
    (outsAt0 m c t.val t.isLt).2.2.1 = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) ∧
    (outsAt0 m c t.val t.isLt).2.2.2 = sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) := by
  rw [outsAt0_A m c t h0]
  dsimp only
  exact ⟨rfl, rfl, rfl, rfl⟩

/-- A later point's contents, one by one. -/
theorem atLater (c : Dev nD) (t : Fin cfg0.N) (h0 : ¬t.val % 40 = 0) :
    (outsAt0 m c t.val t.isLt).1 = out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2 ∧
    (outsAt0 m c t.val t.isLt).2.1 = out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2 ∧
    (outsAt0 m c t.val t.isLt).2.2.1 = (outsAt0 m c (t.val - 1) (Nat.lt_of_le_of_lt (Nat.sub_le _ _) t.isLt)).2.2.1 ∧
    (outsAt0 m c t.val t.isLt).2.2.2 = (outsAt0 m c (t.val - 1) (Nat.lt_of_le_of_lt (Nat.sub_le _ _) t.isLt)).2.2.2 := by
  rw [outsAt0_B m c t h0]
  dsimp only
  exact ⟨rfl, rfl, rfl, rfl⟩

/-- What every point leaves in the two carried buffers: the tables and the thresholds. -/
theorem carried (c : Dev nD) : ∀ (n : ℕ) (h : n < cfg0.N), (∀ y, (outsAt0 m c n h).2.2.1 y = tableAt (V m c main_v0) y)
    ∧ ∀ (k q : ℕ) (hk : k < 15) (hq : q < 56), (outsAt0 m c n h).2.2.2 (ix2 ⟨k, lt16 hk⟩ ⟨q, lt128 hq⟩) = V m c main_v1 (ix2 ⟨k, hk⟩ ⟨q, hq⟩) := by
  intro n
  induction n with
  | zero =>
    intro h
    have e := atFirst m c ⟨0, h⟩ rfl
    have hc0 := (hcond0_0 ⟨0, h⟩).mpr rfl
    refine ⟨fun y => (congrFun e.2.2.1 y).trans ?_, fun k q hk hq => (congrFun e.2.2.2 _).trans ?_⟩
    · rw [soutA_0, blk0]
    · rw [soutA_1, blk1]
  | succ n ih =>
    intro h
    have hn : n + 1 < 40 := h
    have e := atLater m c ⟨n + 1, h⟩ (by show ¬ (n + 1) % 40 = 0; omega)
    have i' := ih (Nat.lt_of_succ_lt h)
    exact ⟨fun y => (congrFun e.2.2.1 y).trans (i'.1 y), fun k q hk hq => (congrFun e.2.2.2 _).trans (i'.2 k q hk hq)⟩

/-- What a point leaves in its two blocks. -/
theorem pointBlocks (c : Dev nD) (hs : OwnBlock (V m c main_v0)) (t : Fin cfg0.N) :
    (∀ y, (outsAt0 m c t.val t.isLt).1 y = prodAt (cdOf (V m c main_v0) (V m c main_v1) (iblk m c 2 t)) (V m c main_v3) (V m c main_v4) y)
    ∧ ∀ y, (outsAt0 m c t.val t.isLt).2.1 y = codeBlock (cdOf (V m c main_v0) (V m c main_v1) (iblk m c 2 t)) y := by
  have b0 := blk0 m c t
  have b1 := blk1 m c t
  have b3 := blk3 m c t
  have b4 := blk4 m c t
  have hs' : OwnBlock (iblk m c 0 t) := by rw [b0]; exact hs
  by_cases h0 : t.val % 40 = 0
  · have e := atFirst m c t h0
    refine ⟨fun y => (congrFun e.1 y).trans ?_, fun y => (congrFun e.2.1 y).trans ?_⟩
    · rw [outA_5 (hs := hs'), b0, b1, b3, b4]
    · rw [outA_6 (hs := hs'), b0, b1]
  · have e := atLater m c t h0
    have hc := carried m c (t.val - 1) (Nat.lt_of_le_of_lt (Nat.sub_le _ _) t.isLt)
    have hx0 : ∀ y, (outsAt0 m c (t.val - 1) (Nat.lt_of_le_of_lt (Nat.sub_le _ _) t.isLt)).2.2.1 y = tableAt (iblk m c 0 t) y := fun y => (hc.1 y).trans (congrArg (fun X => tableAt X y) b0.symm)
    have hx1 : ∀ (k q : ℕ) (hk : k < 15) (hq : q < 56), (outsAt0 m c (t.val - 1) (Nat.lt_of_le_of_lt (Nat.sub_le _ _) t.isLt)).2.2.2 (ix2 ⟨k, lt16 hk⟩ ⟨q, lt128 hq⟩) = iblk m c 1 t (ix2 ⟨k, hk⟩ ⟨q, hq⟩) :=
      fun k q hk hq => (hc.2 k q hk hq).trans (congrFun b1.symm _)
    refine ⟨fun y => (congrFun e.1 y).trans ?_, fun y => (congrFun e.2.1 y).trans ?_⟩
    · rw [outB_5 (hs := hs') (hxs0 := hx0) (hxs1 := hx1), b0, b1, b3, b4]
    · rw [outB_6 (hs := hs') (hxs0 := hx0) (hxs1 := hx1), b0, b1]

/-- A row of the whole input, by number. -/
def allRow (X : S10240x7168.Idx → EReal) (r C : ℕ) : EReal := if h : r < 10240 ∧ C < 7168 then X (ix2 ⟨r, h.1⟩ ⟨C, h.2⟩) else 0

/-- The leaf of a row of the whole input in a codebook. -/
def rowLeaf (X0 : S4x56.Idx → BitVec 32) (X1 : S15x56.Idx → EReal) (X2 : S10240x7168.Idx → EReal) (r q : ℕ) : BitVec 32 :=
  codeAt (allRow X2 r) (colOf X0 q) (thrOf X1 q)

theorem cdOf_block (c : Dev nD) (t : Fin cfg0.N) (X0 : S4x56.Idx → BitVec 32) (X1 : S15x56.Idx → EReal) (R q : ℕ) (hR : R < 256) :
    cdOf X0 X1 (iblk m c 2 t) R q = rowLeaf X0 X1 (V m c main_v2) (256 * t.val + R) q := by
  have ht : t.val < 40 := t.isLt
  have e : rowOf (iblk m c 2 t) R = allRow (V m c main_v2) (256 * t.val + R) := by
    funext C
    unfold rowOf allRow
    by_cases h : C < 7168
    · rw [dif_pos ⟨hR, h⟩, dif_pos ⟨by omega, h⟩]
      exact blk2 m c t ⟨R, hR⟩ ⟨C, h⟩
    · rw [dif_neg (fun e => h e.2), dif_neg (fun e => h e.2)]
  unfold cdOf leaves rowLeaf
  rw [e]

/-- The whole product. -/
def fullProduct (X0 : S4x56.Idx → BitVec 32) (X1 : S15x56.Idx → EReal) (X2 : S10240x7168.Idx → EReal) (X3 : S896x18432.Idx → BitVec 8) (X4 : S1x18432.Idx → EReal) (i : S10240x18432.Idx) : EReal :=
  (((taken (fun q => (rowLeaf X0 X1 X2 (i 0).val q).toNat) (tableCol X3 (i 1).val) : ℤ) : ℝ) : EReal) * scaleOf X4 (i 1).val

/-- All the codes. -/
def fullCodes (X0 : S4x56.Idx → BitVec 32) (X1 : S15x56.Idx → EReal) (X2 : S10240x7168.Idx → EReal) (i : S5x56x2048.Idx) : BitVec 8 :=
  BitVec.setWidth 8 (rowLeaf X0 X1 X2 (2048 * (i 0).val + (i 2).val) (i 1).val)

/-- The kernel's first result is the whole product. -/
theorem productArray (c : Dev nD) (hs : OwnBlock (V m c main_v0)) :
    (dats m 0 c).arrAt 5 cfg0.N = fullProduct (V m c main_v0) (V m c main_v1) (V m c main_v2) (V m c main_v3) (V m c main_v4) := by
  refine (dats m 0 c).arrAt_eq_of_covers 5 _ (by decide +kernel) fun t hf y => ?_
  blk_simp
  rw [after0_5, (pointBlocks m c hs t).1]
  unfold prodAt fullProduct
  have h0 : (y 0).val < 256 := (y 0).isLt
  have e0 : (((win0_5.blk t).view.emb y) 0).val = 256 * t.val + (y 0).val := by
    blk_simp [at5 t]; omega
  have e1 : (((win0_5.blk t).view.emb y) 1).val = (y 1).val := by
    blk_simp [at5 t]
  refine congrArg₂ (· * ·) (congrArg (fun z : ℤ => (((z : ℤ) : ℝ) : EReal)) ?_) (congrArg _ e1.symm)
  refine congrArg₂ taken (funext fun q => congrArg BitVec.toNat ?_) (congrArg _ e1.symm)
  rw [cdOf_block m c t _ _ _ q h0]
  exact congrArg (fun r => rowLeaf _ _ _ r q) e0.symm

/-- The kernel's second result is all the codes. -/
theorem codesArray (c : Dev nD) (hs : OwnBlock (V m c main_v0)) :
    (dats m 0 c).arrAt 6 cfg0.N = fullCodes (V m c main_v0) (V m c main_v1) (V m c main_v2) := by
  refine (dats m 0 c).arrAt_eq_of_covers 6 _ (by decide +kernel) fun t hf y => ?_
  blk_simp
  rw [after0_6, (pointBlocks m c hs t).2]
  unfold codeBlock fullCodes
  have h0 : (y 0).val < 1 := (y 0).isLt
  have h2 : (y 2).val < 256 := (y 2).isLt
  have e0 : (((win0_6.blk t).view.emb y) 0).val = t.val / 8 := by
    blk_simp [at6 t]
  have e1 : (((win0_6.blk t).view.emb y) 1).val = (y 1).val := by
    blk_simp [at6 t]
  have e2 : (((win0_6.blk t).view.emb y) 2).val = 256 * (t.val % 8) + (y 2).val := by
    blk_simp [at6 t]; omega
  refine congrArg (BitVec.setWidth 8) ?_
  rw [cdOf_block m c t _ _ _ _ h2]
  refine congrArg₂ (rowLeaf _ _ _) ?_ e1.symm
  rw [e0, e2]; omega

end Cert.KernelIdeal.Gen
end
-- ==== Proof.KernelValue.lean ====
/- What the kernel's own arrays are, in the terms of its arguments: the values the launch starts from, and the two results. -/
module

public import proofs.«01_k».proof.Proof.Arrays
public import Idealize.ShloMosaic.Lib.Pipeline.Value
public import Idealize.ShloMosaic.Lib.Claim

@[expose] public section

set_option maxRecDepth 16384

noncomputable section

namespace Cert.KernelIdeal.Gen

open Idealize.ShloMosaic Idealize.ShloMosaic.TcCoe Idealize.ShloMosaic.Tactic Idealize.ShloMosaic.StableHlo Idealize.SL.Sem
open Facts

variable (m : (ℓ : Loc nD τ sig) → Buf (Elt Ideal) ℓ) (ρ : Dev nD → PrngReg) (c : Dev nD)

/-- The arguments as the launch finds them. -/
abbrev argX : S5x2048x7168.Idx → EReal := m ((c.tc : Thread nD τ).loc main_arg0)
abbrev argSplit : S56x4.Idx → BitVec 32 := m ((c.tc : Thread nD τ).loc main_arg1)
abbrev argThr : S56x15.Idx → EReal := m ((c.tc : Thread nD τ).loc main_arg2)
abbrev argLut : S56x16x18432.Idx → BitVec 8 := m ((c.tc : Thread nD τ).loc main_arg3)
abbrev argScale : S18432.Idx → EReal := m ((c.tc : Thread nD τ).loc main_arg4)

theorem V_v0 : V m c main_v0 = transpose S4x56 [1, 0] (argSplit m c) transposes_S56x4_S4x56_1_0 := by
  unfold V; after_results; rfl
theorem V_v1 : V m c main_v1 = transpose S15x56 [1, 0] (argThr m c) transposes_S56x15_S15x56_1_0 := by
  unfold V; after_results; rfl
theorem V_v2 : V m c main_v2 = shapeCast S10240x7168 (argX m c) shapeCasts_S5x2048x7168_S10240x7168 := by
  unfold V V0; rfl
theorem V_v3 : V m c main_v3 = shapeCast S896x18432 (argLut m c) shapeCasts_S56x16x18432_S896x18432 := by
  unfold V V0; rfl
theorem V_v4 : V m c main_v4 = shapeCast S1x18432 (argScale m c) shapeCasts_S18432_S1x18432 := by
  unfold V V0; rfl

theorem v0_at (l : Fin 4) (q : Fin 56) : V m c main_v0 (ix2 l q) = argSplit m c (ix2 q l) := by
  rw [V_v0]
  exact transpose_apply _ _ _ (ix2 l q) (ix2 q l) (fun a => match a with | ⟨0, _⟩ => rfl | ⟨1, _⟩ => rfl)
theorem v1_at (k : Fin 15) (q : Fin 56) : V m c main_v1 (ix2 k q) = argThr m c (ix2 q k) := by
  rw [V_v1]
  exact transpose_apply _ _ _ (ix2 k q) (ix2 q k) (fun a => match a with | ⟨0, _⟩ => rfl | ⟨1, _⟩ => rfl)

theorem row_lt (b : Fin 5) (s : Fin 2048) : 2048 * b.val + s.val < 10240 := by omega
theorem div16_lt {C : ℕ} (h : C < 896) : C / 16 < 56 := by omega
theorem mod16_lt (C : ℕ) : C % 16 < 16 := by omega

theorem v2_at (b : Fin 5) (s : Fin 2048) (C : Fin 7168) : V m c main_v2 (ix2 ⟨2048 * b.val + s.val, row_lt b s⟩ C) = argX m c (ix3 b s C) := by
  rw [V_v2]
  refine shapeCast_apply _ _ _ (ix3 b s C) ?_
  rw [Shape.rowMajor_val_three, Shape.rowMajor_val_two]
  show (b.val * 2048 + s.val) * 7168 + C.val = (2048 * b.val + s.val) * 7168 + C.val
  omega
theorem v3_at (C : ℕ) (hC : C < 896) (d : Fin 18432) :
    V m c main_v3 (ix2 ⟨C, hC⟩ d) = argLut m c (ix3 ⟨C / 16, div16_lt hC⟩ ⟨C % 16, mod16_lt C⟩ d) := by
  rw [V_v3]
  refine shapeCast_apply _ _ _ (ix3 ⟨C / 16, div16_lt hC⟩ ⟨C % 16, mod16_lt C⟩ d) ?_
  rw [Shape.rowMajor_val_three, Shape.rowMajor_val_two]
  show (C / 16 * 16 + C % 16) * 18432 + d.val = C * 18432 + d.val
  omega
theorem v4_at (d : Fin 18432) : V m c main_v4 (ix2 0 d) = argScale m c (ix1 d) := by
  rw [V_v4]
  refine shapeCast_apply _ _ _ (ix1 d) ?_
  rw [Shape.rowMajor_val_one, Shape.rowMajor_val_two]
  show d.val = 0 * 18432 + d.val
  omega

/-! ## The two results at the end -/

theorem arrRef_inj : Function.Injective (Pipeline.arrRef spec0) := by decide

theorem tail_v6 : Pipeline.afterTail₀ cfgs (dats m) 0 (V0 m) [hostOps1] c main_v6
    = shapeCast S5x2048x18432 ((dats m 0 c).arrAt 5 cfg0.N : S10240x18432.Idx → EReal) shapeCasts_S10240x18432_S5x2048x18432 := by
  unfold Pipeline.afterTail₀
  after_results
  exact congrArg (fun A : S10240x18432.Idx → EReal => shapeCast S5x2048x18432 A shapeCasts_S10240x18432_S5x2048x18432)
    (Pipeline.withArrays_arr spec0 arrRef_inj c (V0 m c) (fun w => (dats m 0 c).arrAt w cfg0.N) 5)

theorem tail_v7 : Pipeline.afterTail₀ cfgs (dats m) 0 (V0 m) [hostOps1] c main_v7
    = transpose S5x2048x56 [0, 2, 1] ((dats m 0 c).arrAt 6 cfg0.N : S5x56x2048.Idx → BitVec 8) transposes_S5x56x2048_S5x2048x56_0_2_1 := by
  unfold Pipeline.afterTail₀
  after_results
  exact congrArg (fun A : S5x56x2048.Idx → BitVec 8 => transpose S5x2048x56 [0, 2, 1] A transposes_S5x56x2048_S5x2048x56_0_2_1)
    (Pipeline.withArrays_arr spec0 arrRef_inj c (V0 m c) (fun w => (dats m 0 c).arrAt w cfg0.N) 6)

/-- The product's result, by image, row and column. -/
def resultY (i : S5x2048x18432.Idx) : EReal :=
  fullProduct (V m c main_v0) (V m c main_v1) (V m c main_v2) (V m c main_v3) (V m c main_v4) (ix2 ⟨2048 * (i 0).val + (i 1).val, row_lt (i 0) (i 1)⟩ (i 2))

/-- The codes' result, by image, row and codebook. -/
def resultCodes (i : S5x2048x56.Idx) : BitVec 8 :=
  fullCodes (V m c main_v0) (V m c main_v1) (V m c main_v2) (ix3 (i 0) (i 2) (i 1))

theorem end_v6 (hs : OwnBlock (V m c main_v0)) : Pipeline.afterTail₀ cfgs (dats m) 0 (V0 m) [hostOps1] c main_v6 = resultY m c := by
  rw [tail_v6, productArray m c hs]
  funext i
  refine shapeCast_apply (s := S10240x18432) _ _ i (ix2 ⟨2048 * (i 0).val + (i 1).val, row_lt (i 0) (i 1)⟩ (i 2)) ?_
  rw [Shape.rowMajor_val_three, Shape.rowMajor_val_two]
  show (2048 * (i 0).val + (i 1).val) * 18432 + (i 2).val = ((i 0).val * 2048 + (i 1).val) * 18432 + (i 2).val
  omega

theorem end_v7 (hs : OwnBlock (V m c main_v0)) : Pipeline.afterTail₀ cfgs (dats m) 0 (V0 m) [hostOps1] c main_v7 = resultCodes m c := by
  rw [tail_v7, codesArray m c hs]
  funext i
  exact transpose_apply _ _ _ i (ix3 (i 0) (i 2) (i 1)) (fun a => match a with | ⟨0, _⟩ => rfl | ⟨1, _⟩ => rfl | ⟨2, _⟩ => rfl)

/-- The kernel's run: the two results, and the arguments unchanged. -/
theorem run_values (hs : ∀ c : Dev nD, OwnBlock (V m c main_v0)) :
    θ_run defs (onTc (τ := τ) (main (F := Ideal))) ⟨m, fun _ => 0, ρ⟩ (fun r => ∀ c : Dev nD,
      r.2.mem ((c.tc : Thread nD τ).loc main_v6) = resultY m c
      ∧ r.2.mem ((c.tc : Thread nD τ).loc main_v7) = resultCodes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun r h c => ⟨(Pipeline.FramePost.rest_eq h.1 c main_v6 (by decide)).trans (end_v6 m c (hs c)),
      (Pipeline.FramePost.rest_eq h.1 c main_v7 (by decide)).trans (end_v7 m c (hs c)), h.2 c⟩)
    (θ_run_and (run_main m ρ) (unchanged m ρ))

end Cert.KernelIdeal.Gen

end
-- ==== Proof.ReferenceValue.lean ====
/- What the reference computes, read at one place: the codes and the product. -/
module

public import proofs.«01_k».proof.Proof.Reference

@[expose] public section

set_option maxRecDepth 16384

noncomputable section

namespace Cert.ReferenceIdeal.Meaning

open Cert.ReferenceIdeal Cert.ReferenceIdeal.Gen Cert.ReferenceIdeal.Read Idealize.ShloMosaic Idealize.ShloMosaic.TcCoe Idealize.ShloMosaic.StableHlo
open Idealize.ShloMosaic.ValueIdx (contrEquiv2 contrEquiv2_symm_val0 contrEquiv2_symm_val1)
open Cert.KernelIdeal.Gen (beyond treeBit1 treeBit2 treeBit3 leafOf tree codeAt codeAt_lt taken sum_marked sum_coe)

variable (x0 : Vec Ideal S5x2048x7168 .bf16) (x1 : Vec Ideal S56x4 .i32) (x2 : Vec Ideal S56x15 .bf16) (x3 : Vec Ideal S56x16x18432 .i8) (x4 : Vec Ideal S18432 .f32)
variable (hs : OwnBlock x1) (b : Fin 5) (s : Fin 2048) (m : Fin 56)

/-! ## Places -/

/-- Dropping the last, single coordinate of a place leaves the other three. -/
theorem place (j : S5x2048x56x4.Idx) (l : Fin 4)
    (h0 : (j 0).val = ((b.val * 2048 + s.val) * 56 + m.val) / 114688) (h1 : (j 1).val = ((b.val * 2048 + s.val) * 56 + m.val) / 56 % 2048)
    (h2 : (j 2).val = ((b.val * 2048 + s.val) * 56 + m.val) / 1 % 56) (h3 : (j 3).val = l.val) : j = ix4 b s m l := by
  have hb := b.isLt
  have hs := s.isLt
  have hm := m.isLt
  refine funext fun a => Fin.ext ?_
  match a with
  | ⟨0, _⟩ => exact h0.trans (by show _ = b.val; omega)
  | ⟨1, _⟩ => exact h1.trans (by show _ = s.val; omega)
  | ⟨2, _⟩ => exact h2.trans (by show _ = m.val; omega)
  | ⟨3, _⟩ => exact h3

include hs in
theorem word0 : val_main_v27 (F := Ideal) x0 x1 (ix3 b s m) = rowOf x0 b s (colOf x1 m 0) := by
  rw [val_main_v27_apply, val_main_v26_apply, place b s m (idx_main_v26 (idx_main_v27 (ix3 b s m))) 0 rfl rfl rfl rfl]
  exact word x0 x1 hs b s m 0

include hs in
theorem word1 : val_main_v51 (F := Ideal) x0 x1 (ix3 b s m) = rowOf x0 b s (colOf x1 m 1) := by
  rw [val_main_v51_apply, val_main_v50_apply, place b s m (idx_main_v50 (idx_main_v51 (ix3 b s m))) 1 rfl rfl rfl rfl]
  exact word x0 x1 hs b s m 1

include hs in
theorem word2 : val_main_v75 (F := Ideal) x0 x1 (ix3 b s m) = rowOf x0 b s (colOf x1 m 2) := by
  rw [val_main_v75_apply, val_main_v74_apply, place b s m (idx_main_v74 (idx_main_v75 (ix3 b s m))) 2 rfl rfl rfl rfl]
  exact word x0 x1 hs b s m 2

include hs in
theorem word3 : val_main_v99 (F := Ideal) x0 x1 (ix3 b s m) = rowOf x0 b s (colOf x1 m 3) := by
  rw [val_main_v99_apply, val_main_v98_apply, place b s m (idx_main_v98 (idx_main_v99 (ix3 b s m))) 3 rfl rfl rfl rfl]
  exact word x0 x1 hs b s m 3

/-- The codebook's own number, as each level's first coordinate. -/
theorem book : val_main_v22 (F := Ideal) (ix4 b s m 0) = BitVec.ofNat 32 m.val := by
  rw [val_main_v22_apply, val_main_v21_apply, val_main_v15_apply, val_main_v12_apply, val_main_v11_apply, val_main_c_3_apply, val_main_v7_apply]
  have hm := m.isLt
  exact wrap_word (BitVec.ofNat 32 m.val) _ (by rw [BitVec.toNat_ofNat]; omega)

/-! ## The bits of a leaf -/

/-- A bit as the number the reference adds. -/
def asWord (c : BitVec 1) : BitVec 32 := c.setWidth 32

/-- The node a level reads, under the rule that negative indices count from the end. -/
def wrapped (w : BitVec 32) : BitVec 32 := Scalar.select (IntOp.cmpi .slt w 0#32) (w + 15#32) w

def path0 (b0 : BitVec 1) : BitVec 32 := 2#32 * 0#32 + asWord b0
def path1 (b0 b1 : BitVec 1) : BitVec 32 := 2#32 * path0 b0 + asWord b1
def path2 (b0 b1 b2 : BitVec 1) : BitVec 32 := 2#32 * path1 b0 b1 + asWord b2
def path3 (b0 b1 b2 b3 : BitVec 1) : BitVec 32 := 2#32 * path2 b0 b1 b2 + asWord b3

theorem node1 : ∀ b0 : BitVec 1, wrapped (1#32 + path0 b0) = BitVec.ofNat 32 (1 + b0.toNat) := by decide
theorem node2 : ∀ b0 b1 : BitVec 1, wrapped (3#32 + path1 b0 b1) = BitVec.ofNat 32 (3 + (2 * b0.toNat + b1.toNat)) := by decide
theorem node3 : ∀ b0 b1 b2 : BitVec 1, wrapped (7#32 + path2 b0 b1 b2) = BitVec.ofNat 32 (7 + (4 * b0.toNat + 2 * b1.toNat + b2.toNat)) := by decide
theorem leaf_path : ∀ b0 b1 b2 b3 : BitVec 1, path3 b0 b1 b2 b3 = leafOf b0 b1 b2 b3 := by decide

theorem bit_cases (c : BitVec 1) : c = 0#1 ∨ c = 1#1 := by revert c; decide

theorem pick1 (n : ℕ → EReal) (b0 : BitVec 1) : n (1 + b0.toNat) = Scalar.select b0 (n 2) (n 1) := by
  rcases bit_cases b0 with rfl | rfl <;> rfl

theorem pick2 (n : ℕ → EReal) (b0 b1 : BitVec 1) :
    n (3 + (2 * b0.toNat + b1.toNat)) = Scalar.select b0 (Scalar.select b1 (n 6) (n 5)) (Scalar.select b1 (n 4) (n 3)) := by
  rcases bit_cases b0 with rfl | rfl <;> rcases bit_cases b1 with rfl | rfl <;> rfl

theorem pick3 (n : ℕ → EReal) (b0 b1 b2 : BitVec 1) :
    n (7 + (4 * b0.toNat + 2 * b1.toNat + b2.toNat)) = Scalar.select b0
      (Scalar.select b1 (Scalar.select b2 (n 14) (n 13)) (Scalar.select b2 (n 12) (n 11)))
      (Scalar.select b1 (Scalar.select b2 (n 10) (n 9)) (Scalar.select b2 (n 8) (n 7))) := by
  rcases bit_cases b0 with rfl | rfl <;> rcases bit_cases b1 with rfl | rfl <;> rcases bit_cases b2 with rfl | rfl <;> rfl

theorem toNat_le_one (c : BitVec 1) : c.toNat ≤ 1 := by have := c.isLt; omega

/-- The four bits of the reference at a place. -/
abbrev bit0 : BitVec 1 := val_main_v28 (F := Ideal) x0 x1 x2 (ix3 b s m)
abbrev bit1 : BitVec 1 := val_main_v52 (F := Ideal) x0 x1 x2 (ix3 b s m)
abbrev bit2 : BitVec 1 := val_main_v76 (F := Ideal) x0 x1 x2 (ix3 b s m)
abbrev bit3 : BitVec 1 := val_main_v100 (F := Ideal) x0 x1 x2 (ix3 b s m)

theorem path0_eq : val_main_v32 (F := Ideal) x0 x1 x2 (ix3 b s m) = path0 (bit0 x0 x1 x2 b s m) := by
  rw [val_main_v32_apply, val_main_v31_apply, val_main_v30_apply, val_main_v8_apply, val_main_v29_apply]; rfl
theorem path1_eq : val_main_v56 (F := Ideal) x0 x1 x2 (ix3 b s m) = path1 (bit0 x0 x1 x2 b s m) (bit1 x0 x1 x2 b s m) := by
  rw [val_main_v56_apply, val_main_v55_apply, val_main_v54_apply, path0_eq, val_main_v53_apply]; rfl
theorem path2_eq : val_main_v80 (F := Ideal) x0 x1 x2 (ix3 b s m) = path2 (bit0 x0 x1 x2 b s m) (bit1 x0 x1 x2 b s m) (bit2 x0 x1 x2 b s m) := by
  rw [val_main_v80_apply, val_main_v79_apply, val_main_v78_apply, path1_eq, val_main_v77_apply]; rfl
theorem path3_eq : val_main_v104 (F := Ideal) x0 x1 x2 (ix3 b s m)
    = path3 (bit0 x0 x1 x2 b s m) (bit1 x0 x1 x2 b s m) (bit2 x0 x1 x2 b s m) (bit3 x0 x1 x2 b s m) := by
  rw [val_main_v104_apply, val_main_v103_apply, val_main_v102_apply, path2_eq, val_main_v101_apply]; rfl

theorem node0_eq : val_main_v23 (F := Ideal) (ix4 b s m 0) = BitVec.ofNat 32 0 := by
  rw [val_main_v23_apply, val_main_v20_apply, val_main_v17_apply, val_main_v10_apply, val_main_v9_apply, val_main_v8_apply, val_main_v16_apply]
  show wrapped (0#32 + 0#32) = _
  decide

theorem node1_eq : val_main_v47 (F := Ideal) x0 x1 x2 (ix4 b s m 0) = BitVec.ofNat 32 (1 + (bit0 x0 x1 x2 b s m).toNat) := by
  rw [← node1, val_main_v47_apply, show idx_main_v47 (ix4 b s m 0) = ix3 b s m from funext fun a => match a with | ⟨0, _⟩ => rfl | ⟨1, _⟩ => rfl | ⟨2, _⟩ => rfl,
    val_main_v44_apply, val_main_v43_apply, val_main_v41_apply, val_main_v34_apply, path0_eq]
  rfl

theorem node2_eq : val_main_v71 (F := Ideal) x0 x1 x2 (ix4 b s m 0)
    = BitVec.ofNat 32 (3 + (2 * (bit0 x0 x1 x2 b s m).toNat + (bit1 x0 x1 x2 b s m).toNat)) := by
  rw [← node2, val_main_v71_apply, show idx_main_v71 (ix4 b s m 0) = ix3 b s m from funext fun a => match a with | ⟨0, _⟩ => rfl | ⟨1, _⟩ => rfl | ⟨2, _⟩ => rfl,
    val_main_v68_apply, val_main_v67_apply, val_main_v65_apply, val_main_v58_apply, path1_eq]
  rfl

theorem node3_eq : val_main_v95 (F := Ideal) x0 x1 x2 (ix4 b s m 0)
    = BitVec.ofNat 32 (7 + (4 * (bit0 x0 x1 x2 b s m).toNat + 2 * (bit1 x0 x1 x2 b s m).toNat + (bit2 x0 x1 x2 b s m).toNat)) := by
  rw [← node3, val_main_v95_apply, show idx_main_v95 (ix4 b s m 0) = ix3 b s m from funext fun a => match a with | ⟨0, _⟩ => rfl | ⟨1, _⟩ => rfl | ⟨2, _⟩ => rfl,
    val_main_v92_apply, val_main_v91_apply, val_main_v89_apply, val_main_v82_apply, path2_eq]
  rfl

include hs in
theorem bit0_eq : bit0 x0 x1 x2 b s m = beyond (rowOf x0 b s (colOf x1 m 0)) (thrOf x2 m 0) := by
  rw [← word0 x0 x1 hs, ← threshold x2 _ _ b s m 0 (by omega) (book b s m) (node0_eq b s m)]
  rfl

include hs in
theorem bit1_eq : bit1 x0 x1 x2 b s m = treeBit1 (rowOf x0 b s (colOf x1 m 1)) (thrOf x2 m) (bit0 x0 x1 x2 b s m) := by
  unfold treeBit1
  have h := toNat_le_one (bit0 x0 x1 x2 b s m)
  rw [← pick1, ← word1 x0 x1 hs, ← threshold x2 _ _ b s m _ (by omega) (book b s m) (node1_eq x0 x1 x2 b s m)]
  rfl

include hs in
theorem bit2_eq : bit2 x0 x1 x2 b s m = treeBit2 (rowOf x0 b s (colOf x1 m 2)) (thrOf x2 m) (bit0 x0 x1 x2 b s m) (bit1 x0 x1 x2 b s m) := by
  unfold treeBit2
  have h := toNat_le_one (bit0 x0 x1 x2 b s m)
  have h' := toNat_le_one (bit1 x0 x1 x2 b s m)
  rw [← pick2, ← word2 x0 x1 hs, ← threshold x2 _ _ b s m _ (by omega) (book b s m) (node2_eq x0 x1 x2 b s m)]
  rfl

include hs in
theorem bit3_eq : bit3 x0 x1 x2 b s m
    = treeBit3 (rowOf x0 b s (colOf x1 m 3)) (thrOf x2 m) (bit0 x0 x1 x2 b s m) (bit1 x0 x1 x2 b s m) (bit2 x0 x1 x2 b s m) := by
  unfold treeBit3
  have h := toNat_le_one (bit0 x0 x1 x2 b s m)
  have h' := toNat_le_one (bit1 x0 x1 x2 b s m)
  have h'' := toNat_le_one (bit2 x0 x1 x2 b s m)
  rw [← pick3, ← word3 x0 x1 hs, ← threshold x2 _ _ b s m _ (by omega) (book b s m) (node3_eq x0 x1 x2 b s m)]
  rfl

include hs in
theorem leaf_eq : val_main_v104 (F := Ideal) x0 x1 x2 (ix3 b s m) = leafAt x0 x1 x2 b s m := by
  rw [path3_eq, leaf_path, bit3_eq x0 x1 x2 hs, bit2_eq x0 x1 x2 hs, bit1_eq x0 x1 x2 hs, bit0_eq x0 x1 x2 hs]
  rfl

/-- The codes of the reference. -/
def codesOf (i : S5x2048x56.Idx) : BitVec 8 := (leafAt x0 x1 x2 (i 0) (i 1) (i 2)).setWidth 8

include hs in
theorem codes_at : val_main_v105 (F := Ideal) x0 x1 x2 (ix3 b s m) = codesOf x0 x1 x2 (ix3 b s m) := by
  rw [val_main_v105_apply, leaf_eq x0 x1 x2 hs]; rfl

include hs in
theorem codes_eq : val_main_v105 (F := Ideal) x0 x1 x2 = codesOf x0 x1 x2 :=
  funext fun i => by
    have e : i = ix3 (i 0) (i 1) (i 2) := funext fun a => match a with | ⟨0, _⟩ => rfl | ⟨1, _⟩ => rfl | ⟨2, _⟩ => rfl
    rw [e]; exact codes_at x0 x1 x2 hs (i 0) (i 1) (i 2)

/-! ## The product -/

/-- A leaf by codebook number. -/
def leafNo (q : ℕ) : ℕ := if h : q < 56 then (leafAt x0 x1 x2 b s ⟨q, h⟩).toNat else 0

theorem div16_lt {C : ℕ} (h : C < 896) : C / 16 < 56 := by omega
theorem mod16_lt (C : ℕ) : C % 16 < 16 := by omega

/-- A column of the table, sixteen entries a codebook. -/
def tabCol (d : Fin 18432) (C : ℕ) : ℤ := if h : C < 896 then (x3 (ix3 ⟨C / 16, div16_lt h⟩ ⟨C % 16, mod16_lt C⟩ d)).toInt else 0

theorem hot_word : ∀ c k : Fin 16, IntOp.cmpi .eq ((BitVec.ofNat 32 c.val).setWidth 8) ((BitVec.ofNat 32 k.val).setWidth 8) = if c = k then 1#1 else 0#1 := by decide

include hs in
theorem hot_at (k : Fin 16) : val_main_v113 (F := Ideal) x0 x1 x2 (ix4 b s m k) = if (leafAt x0 x1 x2 b s m).toNat = k.val then 1 else 0 := by
  rw [val_main_v113_apply, val_main_v112_apply, val_main_v110_apply, val_main_v106_apply, val_main_v111_apply, val_main_v109_apply, val_main_v108_apply, val_main_v107_apply]
  have e : idx_main_v106 (idx_main_v110 (ix4 b s m k)) = ix3 b s m := funext fun a => match a with | ⟨0, _⟩ => rfl | ⟨1, _⟩ => rfl | ⟨2, _⟩ => rfl
  rw [e, val_main_v105_apply, leaf_eq x0 x1 x2 hs]
  have hl : (leafAt x0 x1 x2 b s m).toNat < 16 := codeAt_lt _ _ _
  generalize leafAt x0 x1 x2 b s m = w at hl
  have h := hot_word ⟨w.toNat, hl⟩ k
  rw [ofNat_small w] at h
  refine (congrArg (FloatOps.uitofp (F := Ideal) .bf16) h).trans ?_
  by_cases hk : w.toNat = k.val
  · rw [if_pos hk, if_pos (Fin.ext hk)]
    show (((1#1 : BitVec 1).toNat : ℝ) : EReal) = 1
    simp
  · rw [if_neg hk, if_neg (fun h => hk (congrArg Fin.val h))]
    show (((0#1 : BitVec 1).toNat : ℝ) : EReal) = 0
    simp

theorem table_at (k : Fin 16) (d : Fin 18432) : val_main_v116 (F := Ideal) x3 (ix3 m k d) = (((tabCol x3 d (16 * m.val + k.val) : ℤ) : ℝ) : EReal) := by
  have hm := m.isLt
  have hk := k.isLt
  unfold tabCol
  rw [dif_pos (by omega), val_main_v116_apply, val_main_v115_apply, val_main_v114_apply]
  have e : (ix3 ⟨(16 * m.val + k.val) / 16, div16_lt (by omega)⟩ ⟨(16 * m.val + k.val) % 16, mod16_lt _⟩ d : S56x16x18432.Idx) = ix3 m k d :=
    funext fun a => Fin.ext (match a with
      | ⟨0, _⟩ => by show (16 * m.val + k.val) / 16 = m.val; omega
      | ⟨1, _⟩ => by show (16 * m.val + k.val) % 16 = k.val; omega
      | ⟨2, _⟩ => rfl)
  rw [e]
  show ((((x3 (ix3 m k d)).signExtend 32).toInt : ℝ) : EReal) = _
  rw [BitVec.toInt_signExtend_of_le (by omega)]

include hs in
theorem dot_at (d : Fin 18432) :
    val_main_v117 (F := Ideal) x0 x1 x2 x3 (ix3 b s d) = (((taken (leafNo x0 x1 x2 b s) (tabCol x3 d) : ℤ) : ℝ) : EReal) := by
  let D := dot_S5x2048x56x16_S56x16x18432_S5x2048x18432_32_10_01_2_n_n
  have hr : D.contr.rank = 2 := rfl
  have c0 : D.contr.size ⟨0, by rw [hr]; omega⟩ = 16 := rfl
  have c1 : D.contr.size ⟨1, by rw [hr]; omega⟩ = 56 := rfl
  have e : val_main_v117 (F := Ideal) x0 x1 x2 x3 (ix3 b s d)
      = ∑ k : Fin 16, ∑ q : Fin 56, val_main_v113 (F := Ideal) x0 x1 x2 (ix4 b s q k) * val_main_v116 (F := Ideal) x3 (ix3 q k d) := by
    unfold val_main_v117 Host.dotGeneral
    generalize val_main_v113 (F := Ideal) x0 x1 x2 = L
    generalize val_main_v116 (F := Ideal) x3 = R
    rw [Ideal.dotGeneral_apply, ← Equiv.sum_comp (contrEquiv2 D 16 56 hr c0 c1).symm, Fintype.sum_prod_type]
    refine Finset.sum_congr rfl fun k _ => Finset.sum_congr rfl fun q _ => ?_
    have h0 := contrEquiv2_symm_val0 D 16 56 hr c0 c1 (k, q)
    have h1 := contrEquiv2_symm_val1 D 16 56 hr c0 c1 (k, q)
    have el : D.lhsIdx (ix3 b s d) ((contrEquiv2 D 16 56 hr c0 c1).symm (k, q)) = ix4 b s q k := by
      funext a; apply Fin.ext
      match a with
      | ⟨0, _⟩ => rfl
      | ⟨1, _⟩ => rfl
      | ⟨2, _⟩ => exact h1
      | ⟨3, _⟩ => exact h0
    have er : D.rhsIdx (ix3 b s d) ((contrEquiv2 D 16 56 hr c0 c1).symm (k, q)) = ix3 q k d := by
      funext a; apply Fin.ext
      match a with
      | ⟨0, _⟩ => exact h1
      | ⟨1, _⟩ => exact h0
      | ⟨2, _⟩ => rfl
    rw [el, er]
  rw [e, Finset.sum_comm]
  unfold taken
  refine sum_coe _ (fun q => tabCol x3 d (16 * q + leafNo x0 x1 x2 b s q)) fun q => ?_
  have hl : (leafAt x0 x1 x2 b s q).toNat < 16 := codeAt_lt _ _ _
  have en : leafNo x0 x1 x2 b s q.val = (leafAt x0 x1 x2 b s q).toNat := dif_pos q.isLt
  rw [Finset.sum_eq_single ⟨(leafAt x0 x1 x2 b s q).toNat, hl⟩]
  · rw [hot_at x0 x1 x2 hs, if_pos rfl, one_mul, table_at, en]
  · intro k _ hk
    rw [hot_at x0 x1 x2 hs, if_neg (fun h => hk (Fin.ext h.symm)), zero_mul]
  · intro h; exact absurd (Finset.mem_univ _) h

/-- The result of the reference. -/
def productOf (i : S5x2048x18432.Idx) : EReal :=
  (((taken (leafNo x0 x1 x2 (i 0) (i 1)) (tabCol x3 (i 2)) : ℤ) : ℝ) : EReal) * x4 (ix1 (i 2))

include hs in
theorem product_at (d : Fin 18432) : val_main_v121 (F := Ideal) x0 x1 x2 x3 x4 (ix3 b s d) = productOf x0 x1 x2 x3 x4 (ix3 b s d) := by
  rw [val_main_v121_apply, val_main_v120_apply, dot_at x0 x1 x2 x3 hs, val_main_v119_apply, val_main_v118_apply]
  have e : idx_main_v118 (idx_main_v119 (ix3 b s d)) = ix1 d := funext fun a => match a with | ⟨0, _⟩ => rfl
  rw [e]
  rfl

include hs in
theorem product_eq : val_main_v121 (F := Ideal) x0 x1 x2 x3 x4 = productOf x0 x1 x2 x3 x4 :=
  funext fun i => by
    have e : i = ix3 (i 0) (i 1) (i 2) := funext fun a => match a with | ⟨0, _⟩ => rfl | ⟨1, _⟩ => rfl | ⟨2, _⟩ => rfl
    rw [e]; exact product_at x0 x1 x2 x3 x4 hs (i 0) (i 1) (i 2)

end Cert.ReferenceIdeal.Meaning

end
-- ==== Proof.Algebraic.lean ====
/- The kernel's results are the reference's. -/
module

public import proofs.«01_k».proof.Defs
public import proofs.«01_k».proof.Proof.KernelValue
public import proofs.«01_k».proof.Proof.ReferenceValue
public import proofs.«01_k».proof.Proof.OwnBlock
public import Idealize.ShloMosaic.Lib.Claim

@[expose] public section

set_option maxRecDepth 16384

noncomputable section

namespace Cert.Proof

open Idealize.ShloMosaic Idealize.ShloMosaic.TcCoe Idealize.SL.Sem
open Cert.KernelIdeal.Gen (codeAt taken)

section Match
variable (m : (ℓ : Loc Cert.KernelIdeal.nD Cert.KernelIdeal.τ Cert.KernelIdeal.sig) → Buf (Elt Ideal) ℓ) (c : Dev Cert.KernelIdeal.nD)

open Cert.KernelIdeal Cert.KernelIdeal.Gen

/-- The precondition, for the transposed columns that the kernel reads. -/
theorem kernel_own [Cert.Pre_splits_in_own_block.Facts] (h : Cert.Pre_KernelIdeal_splits_in_own_block m) : Cert.KernelIdeal.Gen.OwnBlock (V m c main_v0) := by
  intro l q
  rw [v0_at]
  exact own_block _ _ _ _ _ (fun a => a.elim0) (congrFun (h c) _) q l

/-- The precondition, for the columns that the reference reads. -/
theorem reference_own [Cert.Pre_splits_in_own_block.Facts] (h : Cert.Pre_KernelIdeal_splits_in_own_block m) : Cert.ReferenceIdeal.Meaning.OwnBlock (argSplit m c) := by
  intro q l
  exact own_block _ _ _ _ _ (fun a => a.elim0) (congrFun (h c) _) q l

theorem row_match (b : Fin 5) (s : Fin 2048) : allRow (V m c main_v2) (2048 * b.val + s.val) = Cert.ReferenceIdeal.Meaning.rowOf (argX m c) b s := by
  funext C
  unfold allRow Cert.ReferenceIdeal.Meaning.rowOf
  by_cases h : C < 7168
  · rw [dif_pos ⟨row_lt b s, h⟩, dif_pos h]
    exact v2_at m c b s ⟨C, h⟩
  · rw [dif_neg (fun h' => h h'.2), dif_neg h]

theorem col_match (q : Fin 56) : Cert.KernelIdeal.Gen.colOf (V m c main_v0) q.val = Cert.ReferenceIdeal.Meaning.colOf (argSplit m c) q := by
  funext l
  unfold Cert.KernelIdeal.Gen.colOf Cert.ReferenceIdeal.Meaning.colOf
  by_cases h : l < 4
  · rw [dif_pos ⟨h, q.isLt⟩, dif_pos h]
    exact congrArg BitVec.toNat (v0_at m c ⟨l, h⟩ q)
  · rw [dif_neg (fun h' => h h'.1), dif_neg h]

theorem thr_match (q : Fin 56) : Cert.KernelIdeal.Gen.thrOf (V m c main_v1) q.val = Cert.ReferenceIdeal.Meaning.thrOf (argThr m c) q := by
  funext k
  unfold Cert.KernelIdeal.Gen.thrOf Cert.ReferenceIdeal.Meaning.thrOf
  by_cases h : k < 15
  · rw [dif_pos ⟨h, q.isLt⟩, dif_pos h]
    exact v1_at m c ⟨k, h⟩ q
  · rw [dif_neg (fun h' => h h'.1), dif_neg h]

theorem leaf_match (b : Fin 5) (s : Fin 2048) (q : Fin 56) :
    rowLeaf (V m c main_v0) (V m c main_v1) (V m c main_v2) (2048 * b.val + s.val) q.val
      = Cert.ReferenceIdeal.Meaning.leafAt (argX m c) (argSplit m c) (argThr m c) b s q := by
  unfold rowLeaf Cert.ReferenceIdeal.Meaning.leafAt
  rw [row_match, col_match, thr_match]

theorem col_table_match (d : Fin 18432) : tableCol (V m c main_v3) d.val = Cert.ReferenceIdeal.Meaning.tabCol (argLut m c) d := by
  funext C
  unfold tableCol Cert.ReferenceIdeal.Meaning.tabCol
  by_cases h : C < 896
  · rw [dif_pos ⟨h, d.isLt⟩, dif_pos h]
    exact congrArg BitVec.toInt (v3_at m c C h d)
  · rw [dif_neg (fun h' => h h'.1), dif_neg h]

theorem scale_match (d : Fin 18432) : scaleOf (V m c main_v4) d.val = argScale m c (ix1 d) := by
  unfold scaleOf
  rw [dif_pos d.isLt]
  exact v4_at m c d

theorem product_at (b : Fin 5) (s : Fin 2048) (d : Fin 18432) : resultY m c (ix3 b s d)
    = Cert.ReferenceIdeal.Meaning.productOf (argX m c) (argSplit m c) (argThr m c) (argLut m c) (argScale m c) (ix3 b s d) := by
  have e : taken (fun q => (rowLeaf (V m c main_v0) (V m c main_v1) (V m c main_v2) (2048 * b.val + s.val) q).toNat) (tableCol (V m c main_v3) d.val)
      = taken (Cert.ReferenceIdeal.Meaning.leafNo (argX m c) (argSplit m c) (argThr m c) b s) (Cert.ReferenceIdeal.Meaning.tabCol (argLut m c) d) := by
    unfold taken
    refine Finset.sum_congr rfl fun q hq => ?_
    rw [Finset.mem_range] at hq
    unfold Cert.ReferenceIdeal.Meaning.leafNo
    rw [dif_pos hq, ← leaf_match m c b s ⟨q, hq⟩, col_table_match]
  show (((taken (fun q => (rowLeaf (V m c main_v0) (V m c main_v1) (V m c main_v2) (2048 * b.val + s.val) q).toNat) (tableCol (V m c main_v3) d.val) : ℤ) : ℝ) : EReal) * scaleOf (V m c main_v4) d.val = _
  rw [e, scale_match]
  rfl

theorem codes_at (b : Fin 5) (s : Fin 2048) (q : Fin 56) : resultCodes m c (ix3 b s q)
    = Cert.ReferenceIdeal.Meaning.codesOf (argX m c) (argSplit m c) (argThr m c) (ix3 b s q) :=
  congrArg (BitVec.setWidth 8) (leaf_match m c b s q)

theorem product_match : resultY m c
    = Cert.ReferenceIdeal.Meaning.productOf (argX m c) (argSplit m c) (argThr m c) (argLut m c) (argScale m c) :=
  funext fun i => by
    have e : i = ix3 (i 0) (i 1) (i 2) := funext fun a => match a with | ⟨0, _⟩ => rfl | ⟨1, _⟩ => rfl | ⟨2, _⟩ => rfl
    rw [e]; exact product_at m c (i 0) (i 1) (i 2)

theorem codes_match : resultCodes m c = Cert.ReferenceIdeal.Meaning.codesOf (argX m c) (argSplit m c) (argThr m c) :=
  funext fun i => by
    have e : i = ix3 (i 0) (i 1) (i 2) := funext fun a => match a with | ⟨0, _⟩ => rfl | ⟨1, _⟩ => rfl | ⟨2, _⟩ => rfl
    rw [e]; exact codes_at m c (i 0) (i 1) (i 2)

end Match

/-- The kernel and the reference at exact values, from the same arguments, end with the same two results. -/
theorem algebraic : Cert.algebraic_KernelIdeal_ReferenceIdeal_pre_splits_in_own_block
    (hKernelIdeal := Cert.KernelIdeal.Gen.facts) (hReferenceIdeal := Cert.ReferenceIdeal.Gen.facts) (hPre_splits_in_own_block := pre_facts) := by
  intro m g m' g' hpre hargs
  haveI := pre_facts
  refine ⟨Cert.KernelIdeal.Gen.resultY m, Cert.KernelIdeal.Gen.resultCodes m,
    Cert.KernelIdeal.Gen.run_values m g (fun c => kernel_own m c hpre), ?_⟩
  refine (θ_run Cert.ReferenceIdeal.defs _ _).mono (fun r h c => ?_) (Cert.ReferenceIdeal.Value.run (F := Ideal) m' g')
  obtain ⟨a0, a1, a2, a3, a4⟩ := hargs c
  refine ⟨(h c).1.trans ?_, (h c).2.1.trans ?_, (h c).2.2⟩
  · refine (Cert.ReferenceIdeal.Read.val_main_v121_eq (F := Ideal) _).trans ?_
    rw [StableHlo.launchContents_devRef, StableHlo.launchContents_devRef, StableHlo.launchContents_devRef, StableHlo.launchContents_devRef, StableHlo.launchContents_devRef, a0, a1, a2, a3, a4, product_match]
    exact Cert.ReferenceIdeal.Meaning.product_eq _ _ _ _ _ (reference_own m c hpre)
  · refine (Cert.ReferenceIdeal.Read.val_main_v105_eq (F := Ideal) _).trans ?_
    rw [StableHlo.launchContents_devRef, StableHlo.launchContents_devRef, StableHlo.launchContents_devRef, a0, a1, a2, codes_match]
    exact Cert.ReferenceIdeal.Meaning.codes_eq _ _ _ (reference_own m c hpre)

end Cert.Proof

end
-- ==== Proof.lean ====
/- The proof of the claim: it puts together what the other modules prove. -/
module

public import proofs.«01_k».proof.Defs
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, pre_facts, frame_kernel, frame_kernelIdeal,
    frame_kernelIdeal_pre, frame_referenceIdeal, frame_referenceIdeal_pre, preserves, algebraic⟩

end Cert.Proof

end
